-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![512, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S512x512 : Shape := ⟨2, ![512, 512]⟩
abbrev S7x8 : Shape := ⟨2, ![7, 8]⟩
abbrev S_ : Shape := ⟨0, ![]⟩
abbrev S1x1 : Shape := ⟨2, ![1, 1]⟩
abbrev S64x1024 : Shape := ⟨2, ![64, 1024]⟩
abbrev S128x512 : Shape := ⟨2, ![128, 512]⟩
abbrev S128x1024 : Shape := ⟨2, ![128, 1024]⟩

abbrev nBuf : Space → Nat
  | .hbm => 8
  | .vmem => 11
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S1024x512, .f32⟩
  | .hbm, ⟨3, _⟩ => ⟨S512x1024, .f32⟩
  | .hbm, ⟨4, _⟩ => ⟨S1024x512, .f32⟩
  | .hbm, ⟨5, _⟩ => ⟨S512x1024, .f32⟩
  | .hbm, ⟨6, _⟩ => ⟨S1024x512, .f32⟩
  | .hbm, ⟨7, _⟩ => ⟨S512x512, .f32⟩
  | .local _ .vmem, ⟨0, _⟩ => ⟨S64x512, .f32⟩
  | .local _ .vmem, ⟨1, _⟩ => ⟨S512x1024, .f32⟩
  | .local _ .vmem, ⟨2, _⟩ => ⟨S1024x512, .f32⟩
  | .local _ .vmem, ⟨3, _⟩ => ⟨S512x1024, .f32⟩
  | .local _ .vmem, ⟨4, _⟩ => ⟨S1024x512, .f32⟩
  | .local _ .vmem, ⟨5, _⟩ => ⟨S512x1024, .f32⟩
  | .local _ .vmem, ⟨6, _⟩ => ⟨S1024x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  (ofTc nBuf bufTy 1 120 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v98 : BitVec 32 := Scalar.muli v2 c64_i32
  let v99 : Index := Scalar.indexCast v98
  let c0_65 : Index := 0#32
  ![v99.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_74 : BitVec 32 := 64#32
  let v115 : BitVec 32 := Scalar.muli v2 c64_i32_74
  let c0_i32_81 : BitVec 32 := 0#32
  ![v115.toNat, 0]
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_66 : BitVec 32 := 1#32
  let v103 : BitVec 32 := Scalar.addi v2 c1_i32_66
  let c8_i32_67 : BitVec 32 := 8#32
  let c0_i32_68 : BitVec 32 := 0#32
  let v104 : BitVec 1 := Scalar.cmpi .eq c8_i32_67 c0_i32_68
  let c1_i32_69 : BitVec 32 := 1#32
  let v105 : BitVec 32 := Scalar.select v104 c1_i32_69 c8_i32_67
  let v106 : BitVec 32 := Scalar.remsi v103 v105
  let c0_i32_71 : BitVec 32 := 0#32
  let v108 : BitVec 1 := Scalar.cmpi .slt v106 c0_i32_71
  let c0_i32_72 : BitVec 32 := 0#32
  let v109 : BitVec 1 := Scalar.cmpi .slt v105 c0_i32_72
  let v110 : BitVec 1 := Scalar.xori v108 v109
  let c0_i32_70 : BitVec 32 := 0#32
  let v107 : BitVec 1 := Scalar.cmpi .ne v106 c0_i32_70
  let v111 : BitVec 1 := Scalar.andi v110 v107
  let v112 : BitVec 32 := Scalar.addi v106 v105
  let v113 : BitVec 32 := Scalar.select v111 v112 v106
  let c1_i32_79 : BitVec 32 := 1#32
  let v116 : BitVec 32 := Scalar.muli v113 c1_i32_79
  let v117 : BitVec 32 := Scalar.addi c0_i32_80 v116
  v117.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_83 : BitVec 32 := 2#32
  let v124 : BitVec 32 := Scalar.addi v2 c2_i32_83
  let c8_i32_84 : BitVec 32 := 8#32
  let c0_i32_85 : BitVec 32 := 0#32
  let v125 : BitVec 1 := Scalar.cmpi .eq c8_i32_84 c0_i32_85
  let c1_i32_86 : BitVec 32 := 1#32
  let v126 : BitVec 32 := Scalar.select v125 c1_i32_86 c8_i32_84
  let v127 : BitVec 32 := Scalar.remsi v124 v126
  let c0_i32_88 : BitVec 32 := 0#32
  let v129 : BitVec 1 := Scalar.cmpi .slt v127 c0_i32_88
  let c0_i32_89 : BitVec 32 := 0#32
  let v130 : BitVec 1 := Scalar.cmpi .slt v126 c0_i32_89
  let v131 : BitVec 1 := Scalar.xori v129 v130
  let c0_i32_87 : BitVec 32 := 0#32
  let v128 : BitVec 1 := Scalar.cmpi .ne v127 c0_i32_87
  let v132 : BitVec 1 := Scalar.andi v131 v128
  let v133 : BitVec 32 := Scalar.addi v127 v126
  let v134 : BitVec 32 := Scalar.select v132 v133 v127
  let c1_i32_96 : BitVec 32 := 1#32
  let v137 : BitVec 32 := Scalar.muli v134 c1_i32_96
  let v138 : BitVec 32 := Scalar.addi c0_i32_97 v137
  v138.toNat
def k0_dev10 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_100 : BitVec 32 := 3#32
  let v145 : BitVec 32 := Scalar.addi v2 c3_i32_100
  let c8_i32_101 : BitVec 32 := 8#32
  let c0_i32_102 : BitVec 32 := 0#32
  let v146 : BitVec 1 := Scalar.cmpi .eq c8_i32_101 c0_i32_102
  let c1_i32_103 : BitVec 32 := 1#32
  let v147 : BitVec 32 := Scalar.select v146 c1_i32_103 c8_i32_101
  let v148 : BitVec 32 := Scalar.remsi v145 v147
  let c0_i32_105 : BitVec 32 := 0#32
  let v150 : BitVec 1 := Scalar.cmpi .slt v148 c0_i32_105
  let c0_i32_106 : BitVec 32 := 0#32
  let v151 : BitVec 1 := Scalar.cmpi .slt v147 c0_i32_106
  let v152 : BitVec 1 := Scalar.xori v150 v151
  let c0_i32_104 : BitVec 32 := 0#32
  let v149 : BitVec 1 := Scalar.cmpi .ne v148 c0_i32_104
  let v153 : BitVec 1 := Scalar.andi v152 v149
  let v154 : BitVec 32 := Scalar.addi v148 v147
  let v155 : BitVec 32 := Scalar.select v153 v154 v148
  let c1_i32_113 : BitVec 32 := 1#32
  let v158 : BitVec 32 := Scalar.muli v155 c1_i32_113
  let v159 : BitVec 32 := Scalar.addi c0_i32_114 v158
  v159.toNat
def k0_dev11 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_117 : BitVec 32 := 4#32
  let v166 : BitVec 32 := Scalar.addi v2 c4_i32_117
  let c8_i32_118 : BitVec 32 := 8#32
  let c0_i32_119 : BitVec 32 := 0#32
  let v167 : BitVec 1 := Scalar.cmpi .eq c8_i32_118 c0_i32_119
  let c1_i32_120 : BitVec 32 := 1#32
  let v168 : BitVec 32 := Scalar.select v167 c1_i32_120 c8_i32_118
  let v169 : BitVec 32 := Scalar.remsi v166 v168
  let c0_i32_122 : BitVec 32 := 0#32
  let v171 : BitVec 1 := Scalar.cmpi .slt v169 c0_i32_122
  let c0_i32_123 : BitVec 32 := 0#32
  let v172 : BitVec 1 := Scalar.cmpi .slt v168 c0_i32_123
  let v173 : BitVec 1 := Scalar.xori v171 v172
  let c0_i32_121 : BitVec 32 := 0#32
  let v170 : BitVec 1 := Scalar.cmpi .ne v169 c0_i32_121
  let v174 : BitVec 1 := Scalar.andi v173 v170
  let v175 : BitVec 32 := Scalar.addi v169 v168
  let v176 : BitVec 32 := Scalar.select v174 v175 v169
  let c1_i32_130 : BitVec 32 := 1#32
  let v179 : BitVec 32 := Scalar.muli v176 c1_i32_130
  let v180 : BitVec 32 := Scalar.addi c0_i32_131 v179
  v180.toNat
def k0_dev12 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_134 : BitVec 32 := 5#32
  let v187 : BitVec 32 := Scalar.addi v2 c5_i32_134
  let c8_i32_135 : BitVec 32 := 8#32
  let c0_i32_136 : BitVec 32 := 0#32
  let v188 : BitVec 1 := Scalar.cmpi .eq c8_i32_135 c0_i32_136
  let c1_i32_137 : BitVec 32 := 1#32
  let v189 : BitVec 32 := Scalar.select v188 c1_i32_137 c8_i32_135
  let v190 : BitVec 32 := Scalar.remsi v187 v189
  let c0_i32_139 : BitVec 32 := 0#32
  let v192 : BitVec 1 := Scalar.cmpi .slt v190 c0_i32_139
  let c0_i32_140 : BitVec 32 := 0#32
  let v193 : BitVec 1 := Scalar.cmpi .slt v189 c0_i32_140
  let v194 : BitVec 1 := Scalar.xori v192 v193
  let c0_i32_138 : BitVec 32 := 0#32
  let v191 : BitVec 1 := Scalar.cmpi .ne v190 c0_i32_138
  let v195 : BitVec 1 := Scalar.andi v194 v191
  let v196 : BitVec 32 := Scalar.addi v190 v189
  let v197 : BitVec 32 := Scalar.select v195 v196 v190
  let c1_i32_147 : BitVec 32 := 1#32
  let v200 : BitVec 32 := Scalar.muli v197 c1_i32_147
  let v201 : BitVec 32 := Scalar.addi c0_i32_148 v200
  v201.toNat
def k0_dev13 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_151 : BitVec 32 := 6#32
  let v208 : BitVec 32 := Scalar.addi v2 c6_i32_151
  let c8_i32_152 : BitVec 32 := 8#32
  let c0_i32_153 : BitVec 32 := 0#32
  let v209 : BitVec 1 := Scalar.cmpi .eq c8_i32_152 c0_i32_153
  let c1_i32_154 : BitVec 32 := 1#32
  let v210 : BitVec 32 := Scalar.select v209 c1_i32_154 c8_i32_152
  let v211 : BitVec 32 := Scalar.remsi v208 v210
  let c0_i32_156 : BitVec 32 := 0#32
  let v213 : BitVec 1 := Scalar.cmpi .slt v211 c0_i32_156
  let c0_i32_157 : BitVec 32 := 0#32
  let v214 : BitVec 1 := Scalar.cmpi .slt v210 c0_i32_157
  let v215 : BitVec 1 := Scalar.xori v213 v214
  let c0_i32_155 : BitVec 32 := 0#32
  let v212 : BitVec 1 := Scalar.cmpi .ne v211 c0_i32_155
  let v216 : BitVec 1 := Scalar.andi v215 v212
  let v217 : BitVec 32 := Scalar.addi v211 v210
  let v218 : BitVec 32 := Scalar.select v216 v217 v211
  let c1_i32_164 : BitVec 32 := 1#32
  let v221 : BitVec 32 := Scalar.muli v218 c1_i32_164
  let v222 : BitVec 32 := Scalar.addi c0_i32_165 v221
  v222.toNat
def k0_dev14 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_168 : BitVec 32 := 7#32
  let v229 : BitVec 32 := Scalar.addi v2 c7_i32_168
  let c8_i32_169 : BitVec 32 := 8#32
  let c0_i32_170 : BitVec 32 := 0#32
  let v230 : BitVec 1 := Scalar.cmpi .eq c8_i32_169 c0_i32_170
  let c1_i32_171 : BitVec 32 := 1#32
  let v231 : BitVec 32 := Scalar.select v230 c1_i32_171 c8_i32_169
  let v232 : BitVec 32 := Scalar.remsi v229 v231
  let c0_i32_173 : BitVec 32 := 0#32
  let v234 : BitVec 1 := Scalar.cmpi .slt v232 c0_i32_173
  let c0_i32_174 : BitVec 32 := 0#32
  let v235 : BitVec 1 := Scalar.cmpi .slt v231 c0_i32_174
  let v236 : BitVec 1 := Scalar.xori v234 v235
  let c0_i32_172 : BitVec 32 := 0#32
  let v233 : BitVec 1 := Scalar.cmpi .ne v232 c0_i32_172
  let v237 : BitVec 1 := Scalar.andi v236 v233
  let v238 : BitVec 32 := Scalar.addi v232 v231
  let v239 : BitVec 32 := Scalar.select v237 v238 v232
  let c1_i32_181 : BitVec 32 := 1#32
  let v242 : BitVec 32 := Scalar.muli v239 c1_i32_181
  let v243 : BitVec 32 := Scalar.addi c0_i32_182 v242
  v243.toNat
def k0_off3 (d0 : Dev nD) (c1_i32_209 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v282 : BitVec 32 := Scalar.subi v2 c1_i32_209
  let c8_i32_210 : BitVec 32 := 8#32
  let c0_i32_211 : BitVec 32 := 0#32
  let v283 : BitVec 1 := Scalar.cmpi .eq c8_i32_210 c0_i32_211
  let c1_i32_212 : BitVec 32 := 1#32
  let v284 : BitVec 32 := Scalar.select v283 c1_i32_212 c8_i32_210
  let v285 : BitVec 32 := Scalar.remsi v282 v284
  let c0_i32_214 : BitVec 32 := 0#32
  let v287 : BitVec 1 := Scalar.cmpi .slt v285 c0_i32_214
  let c0_i32_215 : BitVec 32 := 0#32
  let v288 : BitVec 1 := Scalar.cmpi .slt v284 c0_i32_215
  let v289 : BitVec 1 := Scalar.xori v287 v288
  let c0_i32_213 : BitVec 32 := 0#32
  let v286 : BitVec 1 := Scalar.cmpi .ne v285 c0_i32_213
  let v290 : BitVec 1 := Scalar.andi v289 v286
  let v291 : BitVec 32 := Scalar.addi v285 v284
  let v292 : BitVec 32 := Scalar.select v290 v291 v285
  let c64_i32_231 : BitVec 32 := 64#32
  let v310 : BitVec 32 := Scalar.muli v292 c64_i32_231
  let v311 : Index := Scalar.indexCast v310
  let c0_232 : Index := 0#32
  ![v311.toNat, 0]
def k0_off4 (d0 : Dev nD) (c1_i32_209 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v282 : BitVec 32 := Scalar.subi v2 c1_i32_209
  let c8_i32_210 : BitVec 32 := 8#32
  let c0_i32_211 : BitVec 32 := 0#32
  let v283 : BitVec 1 := Scalar.cmpi .eq c8_i32_210 c0_i32_211
  let c1_i32_212 : BitVec 32 := 1#32
  let v284 : BitVec 32 := Scalar.select v283 c1_i32_212 c8_i32_210
  let v285 : BitVec 32 := Scalar.remsi v282 v284
  let c0_i32_214 : BitVec 32 := 0#32
  let v287 : BitVec 1 := Scalar.cmpi .slt v285 c0_i32_214
  let c0_i32_215 : BitVec 32 := 0#32
  let v288 : BitVec 1 := Scalar.cmpi .slt v284 c0_i32_215
  let v289 : BitVec 1 := Scalar.xori v287 v288
  let c0_i32_213 : BitVec 32 := 0#32
  let v286 : BitVec 1 := Scalar.cmpi .ne v285 c0_i32_213
  let v290 : BitVec 1 := Scalar.andi v289 v286
  let v291 : BitVec 32 := Scalar.addi v285 v284
  let v292 : BitVec 32 := Scalar.select v290 v291 v285
  let c64_i32_240 : BitVec 32 := 64#32
  let v329 : BitVec 32 := Scalar.muli v292 c64_i32_240
  let c0_i32_249 : BitVec 32 := 0#32
  ![v329.toNat, 0]
def k0_dev15 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_209 : BitVec 32 := 1#32
  let v282 : BitVec 32 := Scalar.subi v2 c1_i32_209
  let c8_i32_210 : BitVec 32 := 8#32
  let c0_i32_211 : BitVec 32 := 0#32
  let v283 : BitVec 1 := Scalar.cmpi .eq c8_i32_210 c0_i32_211
  let c1_i32_212 : BitVec 32 := 1#32
  let v284 : BitVec 32 := Scalar.select v283 c1_i32_212 c8_i32_210
  let v285 : BitVec 32 := Scalar.remsi v282 v284
  let c0_i32_214 : BitVec 32 := 0#32
  let v287 : BitVec 1 := Scalar.cmpi .slt v285 c0_i32_214
  let c0_i32_215 : BitVec 32 := 0#32
  let v288 : BitVec 1 := Scalar.cmpi .slt v284 c0_i32_215
  let v289 : BitVec 1 := Scalar.xori v287 v288
  let c0_i32_213 : BitVec 32 := 0#32
  let v286 : BitVec 1 := Scalar.cmpi .ne v285 c0_i32_213
  let v290 : BitVec 1 := Scalar.andi v289 v286
  let v291 : BitVec 32 := Scalar.addi v285 v284
  let v292 : BitVec 32 := Scalar.select v290 v291 v285
  let c1_i32_246 : BitVec 32 := 1#32
  let v331 : BitVec 32 := Scalar.muli v292 c1_i32_246
  let v332 : BitVec 32 := Scalar.addi c0_i32_247 v331
  v332.toNat
def k0_dev16 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_224 : BitVec 32 := 2#32
  let v299 : BitVec 32 := Scalar.subi v2 c2_i32_224
  let c8_i32_225 : BitVec 32 := 8#32
  let c0_i32_226 : BitVec 32 := 0#32
  let v300 : BitVec 1 := Scalar.cmpi .eq c8_i32_225 c0_i32_226
  let c1_i32_227 : BitVec 32 := 1#32
  let v301 : BitVec 32 := Scalar.select v300 c1_i32_227 c8_i32_225
  let v302 : BitVec 32 := Scalar.remsi v299 v301
  let c0_i32_229 : BitVec 32 := 0#32
  let v304 : BitVec 1 := Scalar.cmpi .slt v302 c0_i32_229
  let c0_i32_230 : BitVec 32 := 0#32
  let v305 : BitVec 1 := Scalar.cmpi .slt v301 c0_i32_230
  let v306 : BitVec 1 := Scalar.xori v304 v305
  let c0_i32_228 : BitVec 32 := 0#32
  let v303 : BitVec 1 := Scalar.cmpi .ne v302 c0_i32_228
  let v307 : BitVec 1 := Scalar.andi v306 v303
  let v308 : BitVec 32 := Scalar.addi v302 v301
  let v309 : BitVec 32 := Scalar.select v307 v308 v302
  let c1_i32_258 : BitVec 32 := 1#32
  let v348 : BitVec 32 := Scalar.muli v309 c1_i32_258
  let v349 : BitVec 32 := Scalar.addi c0_i32_259 v348
  v349.toNat
def k0_dev17 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_270 : BitVec 32 := 3#32
  let v362 : BitVec 32 := Scalar.subi v2 c3_i32_270
  let c8_i32_271 : BitVec 32 := 8#32
  let c0_i32_272 : BitVec 32 := 0#32
  let v363 : BitVec 1 := Scalar.cmpi .eq c8_i32_271 c0_i32_272
  let c1_i32_273 : BitVec 32 := 1#32
  let v364 : BitVec 32 := Scalar.select v363 c1_i32_273 c8_i32_271
  let v365 : BitVec 32 := Scalar.remsi v362 v364
  let c0_i32_275 : BitVec 32 := 0#32
  let v367 : BitVec 1 := Scalar.cmpi .slt v365 c0_i32_275
  let c0_i32_276 : BitVec 32 := 0#32
  let v368 : BitVec 1 := Scalar.cmpi .slt v364 c0_i32_276
  let v369 : BitVec 1 := Scalar.xori v367 v368
  let c0_i32_274 : BitVec 32 := 0#32
  let v366 : BitVec 1 := Scalar.cmpi .ne v365 c0_i32_274
  let v370 : BitVec 1 := Scalar.andi v369 v366
  let v371 : BitVec 32 := Scalar.addi v365 v364
  let v372 : BitVec 32 := Scalar.select v370 v371 v365
  let c1_i32_307 : BitVec 32 := 1#32
  let v411 : BitVec 32 := Scalar.muli v372 c1_i32_307
  let v412 : BitVec 32 := Scalar.addi c0_i32_308 v411
  v412.toNat
def k0_dev18 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_285 : BitVec 32 := 4#32
  let v379 : BitVec 32 := Scalar.subi v2 c4_i32_285
  let c8_i32_286 : BitVec 32 := 8#32
  let c0_i32_287 : BitVec 32 := 0#32
  let v380 : BitVec 1 := Scalar.cmpi .eq c8_i32_286 c0_i32_287
  let c1_i32_288 : BitVec 32 := 1#32
  let v381 : BitVec 32 := Scalar.select v380 c1_i32_288 c8_i32_286
  let v382 : BitVec 32 := Scalar.remsi v379 v381
  let c0_i32_290 : BitVec 32 := 0#32
  let v384 : BitVec 1 := Scalar.cmpi .slt v382 c0_i32_290
  let c0_i32_291 : BitVec 32 := 0#32
  let v385 : BitVec 1 := Scalar.cmpi .slt v381 c0_i32_291
  let v386 : BitVec 1 := Scalar.xori v384 v385
  let c0_i32_289 : BitVec 32 := 0#32
  let v383 : BitVec 1 := Scalar.cmpi .ne v382 c0_i32_289
  let v387 : BitVec 1 := Scalar.andi v386 v383
  let v388 : BitVec 32 := Scalar.addi v382 v381
  let v389 : BitVec 32 := Scalar.select v387 v388 v382
  let c1_i32_319 : BitVec 32 := 1#32
  let v428 : BitVec 32 := Scalar.muli v389 c1_i32_319
  let v429 : BitVec 32 := Scalar.addi c0_i32_320 v428
  v429.toNat
def k0_dev19 (d0 : Dev nD) : Nat :=
  let c0_i32_369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_331 : BitVec 32 := 5#32
  let v442 : BitVec 32 := Scalar.subi v2 c5_i32_331
  let c8_i32_332 : BitVec 32 := 8#32
  let c0_i32_333 : BitVec 32 := 0#32
  let v443 : BitVec 1 := Scalar.cmpi .eq c8_i32_332 c0_i32_333
  let c1_i32_334 : BitVec 32 := 1#32
  let v444 : BitVec 32 := Scalar.select v443 c1_i32_334 c8_i32_332
  let v445 : BitVec 32 := Scalar.remsi v442 v444
  let c0_i32_336 : BitVec 32 := 0#32
  let v447 : BitVec 1 := Scalar.cmpi .slt v445 c0_i32_336
  let c0_i32_337 : BitVec 32 := 0#32
  let v448 : BitVec 1 := Scalar.cmpi .slt v444 c0_i32_337
  let v449 : BitVec 1 := Scalar.xori v447 v448
  let c0_i32_335 : BitVec 32 := 0#32
  let v446 : BitVec 1 := Scalar.cmpi .ne v445 c0_i32_335
  let v450 : BitVec 1 := Scalar.andi v449 v446
  let v451 : BitVec 32 := Scalar.addi v445 v444
  let v452 : BitVec 32 := Scalar.select v450 v451 v445
  let c1_i32_368 : BitVec 32 := 1#32
  let v491 : BitVec 32 := Scalar.muli v452 c1_i32_368
  let v492 : BitVec 32 := Scalar.addi c0_i32_369 v491
  v492.toNat
def k0_dev20 (d0 : Dev nD) : Nat :=
  let c0_i32_381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_346 : BitVec 32 := 6#32
  let v459 : BitVec 32 := Scalar.subi v2 c6_i32_346
  let c8_i32_347 : BitVec 32 := 8#32
  let c0_i32_348 : BitVec 32 := 0#32
  let v460 : BitVec 1 := Scalar.cmpi .eq c8_i32_347 c0_i32_348
  let c1_i32_349 : BitVec 32 := 1#32
  let v461 : BitVec 32 := Scalar.select v460 c1_i32_349 c8_i32_347
  let v462 : BitVec 32 := Scalar.remsi v459 v461
  let c0_i32_351 : BitVec 32 := 0#32
  let v464 : BitVec 1 := Scalar.cmpi .slt v462 c0_i32_351
  let c0_i32_352 : BitVec 32 := 0#32
  let v465 : BitVec 1 := Scalar.cmpi .slt v461 c0_i32_352
  let v466 : BitVec 1 := Scalar.xori v464 v465
  let c0_i32_350 : BitVec 32 := 0#32
  let v463 : BitVec 1 := Scalar.cmpi .ne v462 c0_i32_350
  let v467 : BitVec 1 := Scalar.andi v466 v463
  let v468 : BitVec 32 := Scalar.addi v462 v461
  let v469 : BitVec 32 := Scalar.select v467 v468 v462
  let c1_i32_380 : BitVec 32 := 1#32
  let v508 : BitVec 32 := Scalar.muli v469 c1_i32_380
  let v509 : BitVec 32 := Scalar.addi c0_i32_381 v508
  v509.toNat
def k0_dev21 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_392 : BitVec 32 := 7#32
  let v522 : BitVec 32 := Scalar.subi v2 c7_i32_392
  let c8_i32_393 : BitVec 32 := 8#32
  let c0_i32_394 : BitVec 32 := 0#32
  let v523 : BitVec 1 := Scalar.cmpi .eq c8_i32_393 c0_i32_394
  let c1_i32_395 : BitVec 32 := 1#32
  let v524 : BitVec 32 := Scalar.select v523 c1_i32_395 c8_i32_393
  let v525 : BitVec 32 := Scalar.remsi v522 v524
  let c0_i32_397 : BitVec 32 := 0#32
  let v527 : BitVec 1 := Scalar.cmpi .slt v525 c0_i32_397
  let c0_i32_398 : BitVec 32 := 0#32
  let v528 : BitVec 1 := Scalar.cmpi .slt v524 c0_i32_398
  let v529 : BitVec 1 := Scalar.xori v527 v528
  let c0_i32_396 : BitVec 32 := 0#32
  let v526 : BitVec 1 := Scalar.cmpi .ne v525 c0_i32_396
  let v530 : BitVec 1 := Scalar.andi v529 v526
  let v531 : BitVec 32 := Scalar.addi v525 v524
  let v532 : BitVec 32 := Scalar.select v530 v531 v525
  let c1_i32_412 : BitVec 32 := 1#32
  let v549 : BitVec 32 := Scalar.muli v532 c1_i32_412
  let v550 : BitVec 32 := Scalar.addi c0_i32_413 v549
  v550.toNat
def k0_off5 (d0 : Dev nD) (c1_i32_465 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v585 : BitVec 32 := Scalar.addi v2 c1_i32_465
  let c8_i32_466 : BitVec 32 := 8#32
  let c0_i32_467 : BitVec 32 := 0#32
  let v586 : BitVec 1 := Scalar.cmpi .eq c8_i32_466 c0_i32_467
  let c1_i32_468 : BitVec 32 := 1#32
  let v587 : BitVec 32 := Scalar.select v586 c1_i32_468 c8_i32_466
  let v588 : BitVec 32 := Scalar.remsi v585 v587
  let c0_i32_470 : BitVec 32 := 0#32
  let v590 : BitVec 1 := Scalar.cmpi .slt v588 c0_i32_470
  let c0_i32_471 : BitVec 32 := 0#32
  let v591 : BitVec 1 := Scalar.cmpi .slt v587 c0_i32_471
  let v592 : BitVec 1 := Scalar.xori v590 v591
  let c0_i32_469 : BitVec 32 := 0#32
  let v589 : BitVec 1 := Scalar.cmpi .ne v588 c0_i32_469
  let v593 : BitVec 1 := Scalar.andi v592 v589
  let v594 : BitVec 32 := Scalar.addi v588 v587
  let v595 : BitVec 32 := Scalar.select v593 v594 v588
  let c64_i32_480 : BitVec 32 := 64#32
  let v602 : BitVec 32 := Scalar.muli v595 c64_i32_480
  let v603 : Index := Scalar.indexCast v602
  let c0_481 : Index := 0#32
  ![v603.toNat, 0]
def k0_dev22 (d0 : Dev nD) : Nat :=
  let c0_i32_600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_586 : BitVec 32 := 1#32
  let v745 : BitVec 32 := Scalar.addi v2 c1_i32_586
  let c8_i32_587 : BitVec 32 := 8#32
  let c0_i32_588 : BitVec 32 := 0#32
  let v746 : BitVec 1 := Scalar.cmpi .eq c8_i32_587 c0_i32_588
  let c1_i32_589 : BitVec 32 := 1#32
  let v747 : BitVec 32 := Scalar.select v746 c1_i32_589 c8_i32_587
  let v748 : BitVec 32 := Scalar.remsi v745 v747
  let c0_i32_591 : BitVec 32 := 0#32
  let v750 : BitVec 1 := Scalar.cmpi .slt v748 c0_i32_591
  let c0_i32_592 : BitVec 32 := 0#32
  let v751 : BitVec 1 := Scalar.cmpi .slt v747 c0_i32_592
  let v752 : BitVec 1 := Scalar.xori v750 v751
  let c0_i32_590 : BitVec 32 := 0#32
  let v749 : BitVec 1 := Scalar.cmpi .ne v748 c0_i32_590
  let v753 : BitVec 1 := Scalar.andi v752 v749
  let v754 : BitVec 32 := Scalar.addi v748 v747
  let v755 : BitVec 32 := Scalar.select v753 v754 v748
  let c1_i32_599 : BitVec 32 := 1#32
  let v758 : BitVec 32 := Scalar.muli v755 c1_i32_599
  let v759 : BitVec 32 := Scalar.addi c0_i32_600 v758
  v759.toNat
def k0_dev23 (d0 : Dev nD) : Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_603 : BitVec 32 := 2#32
  let v766 : BitVec 32 := Scalar.addi v2 c2_i32_603
  let c8_i32_604 : BitVec 32 := 8#32
  let c0_i32_605 : BitVec 32 := 0#32
  let v767 : BitVec 1 := Scalar.cmpi .eq c8_i32_604 c0_i32_605
  let c1_i32_606 : BitVec 32 := 1#32
  let v768 : BitVec 32 := Scalar.select v767 c1_i32_606 c8_i32_604
  let v769 : BitVec 32 := Scalar.remsi v766 v768
  let c0_i32_608 : BitVec 32 := 0#32
  let v771 : BitVec 1 := Scalar.cmpi .slt v769 c0_i32_608
  let c0_i32_609 : BitVec 32 := 0#32
  let v772 : BitVec 1 := Scalar.cmpi .slt v768 c0_i32_609
  let v773 : BitVec 1 := Scalar.xori v771 v772
  let c0_i32_607 : BitVec 32 := 0#32
  let v770 : BitVec 1 := Scalar.cmpi .ne v769 c0_i32_607
  let v774 : BitVec 1 := Scalar.andi v773 v770
  let v775 : BitVec 32 := Scalar.addi v769 v768
  let v776 : BitVec 32 := Scalar.select v774 v775 v769
  let c1_i32_616 : BitVec 32 := 1#32
  let v779 : BitVec 32 := Scalar.muli v776 c1_i32_616
  let v780 : BitVec 32 := Scalar.addi c0_i32_617 v779
  v780.toNat
def k0_dev24 (d0 : Dev nD) : Nat :=
  let c0_i32_634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_620 : BitVec 32 := 3#32
  let v787 : BitVec 32 := Scalar.addi v2 c3_i32_620
  let c8_i32_621 : BitVec 32 := 8#32
  let c0_i32_622 : BitVec 32 := 0#32
  let v788 : BitVec 1 := Scalar.cmpi .eq c8_i32_621 c0_i32_622
  let c1_i32_623 : BitVec 32 := 1#32
  let v789 : BitVec 32 := Scalar.select v788 c1_i32_623 c8_i32_621
  let v790 : BitVec 32 := Scalar.remsi v787 v789
  let c0_i32_625 : BitVec 32 := 0#32
  let v792 : BitVec 1 := Scalar.cmpi .slt v790 c0_i32_625
  let c0_i32_626 : BitVec 32 := 0#32
  let v793 : BitVec 1 := Scalar.cmpi .slt v789 c0_i32_626
  let v794 : BitVec 1 := Scalar.xori v792 v793
  let c0_i32_624 : BitVec 32 := 0#32
  let v791 : BitVec 1 := Scalar.cmpi .ne v790 c0_i32_624
  let v795 : BitVec 1 := Scalar.andi v794 v791
  let v796 : BitVec 32 := Scalar.addi v790 v789
  let v797 : BitVec 32 := Scalar.select v795 v796 v790
  let c1_i32_633 : BitVec 32 := 1#32
  let v800 : BitVec 32 := Scalar.muli v797 c1_i32_633
  let v801 : BitVec 32 := Scalar.addi c0_i32_634 v800
  v801.toNat
def k0_dev25 (d0 : Dev nD) : Nat :=
  let c0_i32_651 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_637 : BitVec 32 := 4#32
  let v808 : BitVec 32 := Scalar.addi v2 c4_i32_637
  let c8_i32_638 : BitVec 32 := 8#32
  let c0_i32_639 : BitVec 32 := 0#32
  let v809 : BitVec 1 := Scalar.cmpi .eq c8_i32_638 c0_i32_639
  let c1_i32_640 : BitVec 32 := 1#32
  let v810 : BitVec 32 := Scalar.select v809 c1_i32_640 c8_i32_638
  let v811 : BitVec 32 := Scalar.remsi v808 v810
  let c0_i32_642 : BitVec 32 := 0#32
  let v813 : BitVec 1 := Scalar.cmpi .slt v811 c0_i32_642
  let c0_i32_643 : BitVec 32 := 0#32
  let v814 : BitVec 1 := Scalar.cmpi .slt v810 c0_i32_643
  let v815 : BitVec 1 := Scalar.xori v813 v814
  let c0_i32_641 : BitVec 32 := 0#32
  let v812 : BitVec 1 := Scalar.cmpi .ne v811 c0_i32_641
  let v816 : BitVec 1 := Scalar.andi v815 v812
  let v817 : BitVec 32 := Scalar.addi v811 v810
  let v818 : BitVec 32 := Scalar.select v816 v817 v811
  let c1_i32_650 : BitVec 32 := 1#32
  let v821 : BitVec 32 := Scalar.muli v818 c1_i32_650
  let v822 : BitVec 32 := Scalar.addi c0_i32_651 v821
  v822.toNat
def k0_dev26 (d0 : Dev nD) : Nat :=
  let c0_i32_668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_654 : BitVec 32 := 5#32
  let v829 : BitVec 32 := Scalar.addi v2 c5_i32_654
  let c8_i32_655 : BitVec 32 := 8#32
  let c0_i32_656 : BitVec 32 := 0#32
  let v830 : BitVec 1 := Scalar.cmpi .eq c8_i32_655 c0_i32_656
  let c1_i32_657 : BitVec 32 := 1#32
  let v831 : BitVec 32 := Scalar.select v830 c1_i32_657 c8_i32_655
  let v832 : BitVec 32 := Scalar.remsi v829 v831
  let c0_i32_659 : BitVec 32 := 0#32
  let v834 : BitVec 1 := Scalar.cmpi .slt v832 c0_i32_659
  let c0_i32_660 : BitVec 32 := 0#32
  let v835 : BitVec 1 := Scalar.cmpi .slt v831 c0_i32_660
  let v836 : BitVec 1 := Scalar.xori v834 v835
  let c0_i32_658 : BitVec 32 := 0#32
  let v833 : BitVec 1 := Scalar.cmpi .ne v832 c0_i32_658
  let v837 : BitVec 1 := Scalar.andi v836 v833
  let v838 : BitVec 32 := Scalar.addi v832 v831
  let v839 : BitVec 32 := Scalar.select v837 v838 v832
  let c1_i32_667 : BitVec 32 := 1#32
  let v842 : BitVec 32 := Scalar.muli v839 c1_i32_667
  let v843 : BitVec 32 := Scalar.addi c0_i32_668 v842
  v843.toNat
def k0_dev27 (d0 : Dev nD) : Nat :=
  let c0_i32_685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_671 : BitVec 32 := 6#32
  let v850 : BitVec 32 := Scalar.addi v2 c6_i32_671
  let c8_i32_672 : BitVec 32 := 8#32
  let c0_i32_673 : BitVec 32 := 0#32
  let v851 : BitVec 1 := Scalar.cmpi .eq c8_i32_672 c0_i32_673
  let c1_i32_674 : BitVec 32 := 1#32
  let v852 : BitVec 32 := Scalar.select v851 c1_i32_674 c8_i32_672
  let v853 : BitVec 32 := Scalar.remsi v850 v852
  let c0_i32_676 : BitVec 32 := 0#32
  let v855 : BitVec 1 := Scalar.cmpi .slt v853 c0_i32_676
  let c0_i32_677 : BitVec 32 := 0#32
  let v856 : BitVec 1 := Scalar.cmpi .slt v852 c0_i32_677
  let v857 : BitVec 1 := Scalar.xori v855 v856
  let c0_i32_675 : BitVec 32 := 0#32
  let v854 : BitVec 1 := Scalar.cmpi .ne v853 c0_i32_675
  let v858 : BitVec 1 := Scalar.andi v857 v854
  let v859 : BitVec 32 := Scalar.addi v853 v852
  let v860 : BitVec 32 := Scalar.select v858 v859 v853
  let c1_i32_684 : BitVec 32 := 1#32
  let v863 : BitVec 32 := Scalar.muli v860 c1_i32_684
  let v864 : BitVec 32 := Scalar.addi c0_i32_685 v863
  v864.toNat
def k0_dev28 (d0 : Dev nD) : Nat :=
  let c0_i32_702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_688 : BitVec 32 := 7#32
  let v871 : BitVec 32 := Scalar.addi v2 c7_i32_688
  let c8_i32_689 : BitVec 32 := 8#32
  let c0_i32_690 : BitVec 32 := 0#32
  let v872 : BitVec 1 := Scalar.cmpi .eq c8_i32_689 c0_i32_690
  let c1_i32_691 : BitVec 32 := 1#32
  let v873 : BitVec 32 := Scalar.select v872 c1_i32_691 c8_i32_689
  let v874 : BitVec 32 := Scalar.remsi v871 v873
  let c0_i32_693 : BitVec 32 := 0#32
  let v876 : BitVec 1 := Scalar.cmpi .slt v874 c0_i32_693
  let c0_i32_694 : BitVec 32 := 0#32
  let v877 : BitVec 1 := Scalar.cmpi .slt v873 c0_i32_694
  let v878 : BitVec 1 := Scalar.xori v876 v877
  let c0_i32_692 : BitVec 32 := 0#32
  let v875 : BitVec 1 := Scalar.cmpi .ne v874 c0_i32_692
  let v879 : BitVec 1 := Scalar.andi v878 v875
  let v880 : BitVec 32 := Scalar.addi v874 v873
  let v881 : BitVec 32 := Scalar.select v879 v880 v874
  let c1_i32_701 : BitVec 32 := 1#32
  let v884 : BitVec 32 := Scalar.muli v881 c1_i32_701
  let v885 : BitVec 32 := Scalar.addi c0_i32_702 v884
  v885.toNat
def k0_dev29 (d0 : Dev nD) : Nat :=
  let c0_i32_803 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_765 : BitVec 32 := 1#32
  let v932 : BitVec 32 := Scalar.subi v2 c1_i32_765
  let c8_i32_766 : BitVec 32 := 8#32
  let c0_i32_767 : BitVec 32 := 0#32
  let v933 : BitVec 1 := Scalar.cmpi .eq c8_i32_766 c0_i32_767
  let c1_i32_768 : BitVec 32 := 1#32
  let v934 : BitVec 32 := Scalar.select v933 c1_i32_768 c8_i32_766
  let v935 : BitVec 32 := Scalar.remsi v932 v934
  let c0_i32_770 : BitVec 32 := 0#32
  let v937 : BitVec 1 := Scalar.cmpi .slt v935 c0_i32_770
  let c0_i32_771 : BitVec 32 := 0#32
  let v938 : BitVec 1 := Scalar.cmpi .slt v934 c0_i32_771
  let v939 : BitVec 1 := Scalar.xori v937 v938
  let c0_i32_769 : BitVec 32 := 0#32
  let v936 : BitVec 1 := Scalar.cmpi .ne v935 c0_i32_769
  let v940 : BitVec 1 := Scalar.andi v939 v936
  let v941 : BitVec 32 := Scalar.addi v935 v934
  let v942 : BitVec 32 := Scalar.select v940 v941 v935
  let c1_i32_802 : BitVec 32 := 1#32
  let v981 : BitVec 32 := Scalar.muli v942 c1_i32_802
  let v982 : BitVec 32 := Scalar.addi c0_i32_803 v981
  v982.toNat
def k0_dev30 (d0 : Dev nD) : Nat :=
  let c0_i32_815 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_780 : BitVec 32 := 2#32
  let v949 : BitVec 32 := Scalar.subi v2 c2_i32_780
  let c8_i32_781 : BitVec 32 := 8#32
  let c0_i32_782 : BitVec 32 := 0#32
  let v950 : BitVec 1 := Scalar.cmpi .eq c8_i32_781 c0_i32_782
  let c1_i32_783 : BitVec 32 := 1#32
  let v951 : BitVec 32 := Scalar.select v950 c1_i32_783 c8_i32_781
  let v952 : BitVec 32 := Scalar.remsi v949 v951
  let c0_i32_785 : BitVec 32 := 0#32
  let v954 : BitVec 1 := Scalar.cmpi .slt v952 c0_i32_785
  let c0_i32_786 : BitVec 32 := 0#32
  let v955 : BitVec 1 := Scalar.cmpi .slt v951 c0_i32_786
  let v956 : BitVec 1 := Scalar.xori v954 v955
  let c0_i32_784 : BitVec 32 := 0#32
  let v953 : BitVec 1 := Scalar.cmpi .ne v952 c0_i32_784
  let v957 : BitVec 1 := Scalar.andi v956 v953
  let v958 : BitVec 32 := Scalar.addi v952 v951
  let v959 : BitVec 32 := Scalar.select v957 v958 v952
  let c1_i32_814 : BitVec 32 := 1#32
  let v998 : BitVec 32 := Scalar.muli v959 c1_i32_814
  let v999 : BitVec 32 := Scalar.addi c0_i32_815 v998
  v999.toNat
def k0_dev31 (d0 : Dev nD) : Nat :=
  let c0_i32_864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_826 : BitVec 32 := 3#32
  let v1012 : BitVec 32 := Scalar.subi v2 c3_i32_826
  let c8_i32_827 : BitVec 32 := 8#32
  let c0_i32_828 : BitVec 32 := 0#32
  let v1013 : BitVec 1 := Scalar.cmpi .eq c8_i32_827 c0_i32_828
  let c1_i32_829 : BitVec 32 := 1#32
  let v1014 : BitVec 32 := Scalar.select v1013 c1_i32_829 c8_i32_827
  let v1015 : BitVec 32 := Scalar.remsi v1012 v1014
  let c0_i32_831 : BitVec 32 := 0#32
  let v1017 : BitVec 1 := Scalar.cmpi .slt v1015 c0_i32_831
  let c0_i32_832 : BitVec 32 := 0#32
  let v1018 : BitVec 1 := Scalar.cmpi .slt v1014 c0_i32_832
  let v1019 : BitVec 1 := Scalar.xori v1017 v1018
  let c0_i32_830 : BitVec 32 := 0#32
  let v1016 : BitVec 1 := Scalar.cmpi .ne v1015 c0_i32_830
  let v1020 : BitVec 1 := Scalar.andi v1019 v1016
  let v1021 : BitVec 32 := Scalar.addi v1015 v1014
  let v1022 : BitVec 32 := Scalar.select v1020 v1021 v1015
  let c1_i32_863 : BitVec 32 := 1#32
  let v1061 : BitVec 32 := Scalar.muli v1022 c1_i32_863
  let v1062 : BitVec 32 := Scalar.addi c0_i32_864 v1061
  v1062.toNat
def k0_dev32 (d0 : Dev nD) : Nat :=
  let c0_i32_876 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_841 : BitVec 32 := 4#32
  let v1029 : BitVec 32 := Scalar.subi v2 c4_i32_841
  let c8_i32_842 : BitVec 32 := 8#32
  let c0_i32_843 : BitVec 32 := 0#32
  let v1030 : BitVec 1 := Scalar.cmpi .eq c8_i32_842 c0_i32_843
  let c1_i32_844 : BitVec 32 := 1#32
  let v1031 : BitVec 32 := Scalar.select v1030 c1_i32_844 c8_i32_842
  let v1032 : BitVec 32 := Scalar.remsi v1029 v1031
  let c0_i32_846 : BitVec 32 := 0#32
  let v1034 : BitVec 1 := Scalar.cmpi .slt v1032 c0_i32_846
  let c0_i32_847 : BitVec 32 := 0#32
  let v1035 : BitVec 1 := Scalar.cmpi .slt v1031 c0_i32_847
  let v1036 : BitVec 1 := Scalar.xori v1034 v1035
  let c0_i32_845 : BitVec 32 := 0#32
  let v1033 : BitVec 1 := Scalar.cmpi .ne v1032 c0_i32_845
  let v1037 : BitVec 1 := Scalar.andi v1036 v1033
  let v1038 : BitVec 32 := Scalar.addi v1032 v1031
  let v1039 : BitVec 32 := Scalar.select v1037 v1038 v1032
  let c1_i32_875 : BitVec 32 := 1#32
  let v1078 : BitVec 32 := Scalar.muli v1039 c1_i32_875
  let v1079 : BitVec 32 := Scalar.addi c0_i32_876 v1078
  v1079.toNat
def k0_dev33 (d0 : Dev nD) : Nat :=
  let c0_i32_925 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_887 : BitVec 32 := 5#32
  let v1092 : BitVec 32 := Scalar.subi v2 c5_i32_887
  let c8_i32_888 : BitVec 32 := 8#32
  let c0_i32_889 : BitVec 32 := 0#32
  let v1093 : BitVec 1 := Scalar.cmpi .eq c8_i32_888 c0_i32_889
  let c1_i32_890 : BitVec 32 := 1#32
  let v1094 : BitVec 32 := Scalar.select v1093 c1_i32_890 c8_i32_888
  let v1095 : BitVec 32 := Scalar.remsi v1092 v1094
  let c0_i32_892 : BitVec 32 := 0#32
  let v1097 : BitVec 1 := Scalar.cmpi .slt v1095 c0_i32_892
  let c0_i32_893 : BitVec 32 := 0#32
  let v1098 : BitVec 1 := Scalar.cmpi .slt v1094 c0_i32_893
  let v1099 : BitVec 1 := Scalar.xori v1097 v1098
  let c0_i32_891 : BitVec 32 := 0#32
  let v1096 : BitVec 1 := Scalar.cmpi .ne v1095 c0_i32_891
  let v1100 : BitVec 1 := Scalar.andi v1099 v1096
  let v1101 : BitVec 32 := Scalar.addi v1095 v1094
  let v1102 : BitVec 32 := Scalar.select v1100 v1101 v1095
  let c1_i32_924 : BitVec 32 := 1#32
  let v1141 : BitVec 32 := Scalar.muli v1102 c1_i32_924
  let v1142 : BitVec 32 := Scalar.addi c0_i32_925 v1141
  v1142.toNat
def k0_dev34 (d0 : Dev nD) : Nat :=
  let c0_i32_937 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_902 : BitVec 32 := 6#32
  let v1109 : BitVec 32 := Scalar.subi v2 c6_i32_902
  let c8_i32_903 : BitVec 32 := 8#32
  let c0_i32_904 : BitVec 32 := 0#32
  let v1110 : BitVec 1 := Scalar.cmpi .eq c8_i32_903 c0_i32_904
  let c1_i32_905 : BitVec 32 := 1#32
  let v1111 : BitVec 32 := Scalar.select v1110 c1_i32_905 c8_i32_903
  let v1112 : BitVec 32 := Scalar.remsi v1109 v1111
  let c0_i32_907 : BitVec 32 := 0#32
  let v1114 : BitVec 1 := Scalar.cmpi .slt v1112 c0_i32_907
  let c0_i32_908 : BitVec 32 := 0#32
  let v1115 : BitVec 1 := Scalar.cmpi .slt v1111 c0_i32_908
  let v1116 : BitVec 1 := Scalar.xori v1114 v1115
  let c0_i32_906 : BitVec 32 := 0#32
  let v1113 : BitVec 1 := Scalar.cmpi .ne v1112 c0_i32_906
  let v1117 : BitVec 1 := Scalar.andi v1116 v1113
  let v1118 : BitVec 32 := Scalar.addi v1112 v1111
  let v1119 : BitVec 32 := Scalar.select v1117 v1118 v1112
  let c1_i32_936 : BitVec 32 := 1#32
  let v1158 : BitVec 32 := Scalar.muli v1119 c1_i32_936
  let v1159 : BitVec 32 := Scalar.addi c0_i32_937 v1158
  v1159.toNat
def k0_dev35 (d0 : Dev nD) : Nat :=
  let c0_i32_969 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_948 : BitVec 32 := 7#32
  let v1172 : BitVec 32 := Scalar.subi v2 c7_i32_948
  let c8_i32_949 : BitVec 32 := 8#32
  let c0_i32_950 : BitVec 32 := 0#32
  let v1173 : BitVec 1 := Scalar.cmpi .eq c8_i32_949 c0_i32_950
  let c1_i32_951 : BitVec 32 := 1#32
  let v1174 : BitVec 32 := Scalar.select v1173 c1_i32_951 c8_i32_949
  let v1175 : BitVec 32 := Scalar.remsi v1172 v1174
  let c0_i32_953 : BitVec 32 := 0#32
  let v1177 : BitVec 1 := Scalar.cmpi .slt v1175 c0_i32_953
  let c0_i32_954 : BitVec 32 := 0#32
  let v1178 : BitVec 1 := Scalar.cmpi .slt v1174 c0_i32_954
  let v1179 : BitVec 1 := Scalar.xori v1177 v1178
  let c0_i32_952 : BitVec 32 := 0#32
  let v1176 : BitVec 1 := Scalar.cmpi .ne v1175 c0_i32_952
  let v1180 : BitVec 1 := Scalar.andi v1179 v1176
  let v1181 : BitVec 32 := Scalar.addi v1175 v1174
  let v1182 : BitVec 32 := Scalar.select v1180 v1181 v1175
  let c1_i32_968 : BitVec 32 := 1#32
  let v1199 : BitVec 32 := Scalar.muli v1182 c1_i32_968
  let v1200 : BitVec 32 := Scalar.addi c0_i32_969 v1199
  v1200.toNat
def k0_dev36 (d0 : Dev nD) : Nat :=
  let c0_i32_1156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1142 : BitVec 32 := 1#32
  let v1395 : BitVec 32 := Scalar.addi v2 c1_i32_1142
  let c8_i32_1143 : BitVec 32 := 8#32
  let c0_i32_1144 : BitVec 32 := 0#32
  let v1396 : BitVec 1 := Scalar.cmpi .eq c8_i32_1143 c0_i32_1144
  let c1_i32_1145 : BitVec 32 := 1#32
  let v1397 : BitVec 32 := Scalar.select v1396 c1_i32_1145 c8_i32_1143
  let v1398 : BitVec 32 := Scalar.remsi v1395 v1397
  let c0_i32_1147 : BitVec 32 := 0#32
  let v1400 : BitVec 1 := Scalar.cmpi .slt v1398 c0_i32_1147
  let c0_i32_1148 : BitVec 32 := 0#32
  let v1401 : BitVec 1 := Scalar.cmpi .slt v1397 c0_i32_1148
  let v1402 : BitVec 1 := Scalar.xori v1400 v1401
  let c0_i32_1146 : BitVec 32 := 0#32
  let v1399 : BitVec 1 := Scalar.cmpi .ne v1398 c0_i32_1146
  let v1403 : BitVec 1 := Scalar.andi v1402 v1399
  let v1404 : BitVec 32 := Scalar.addi v1398 v1397
  let v1405 : BitVec 32 := Scalar.select v1403 v1404 v1398
  let c1_i32_1155 : BitVec 32 := 1#32
  let v1408 : BitVec 32 := Scalar.muli v1405 c1_i32_1155
  let v1409 : BitVec 32 := Scalar.addi c0_i32_1156 v1408
  v1409.toNat
def k0_dev37 (d0 : Dev nD) : Nat :=
  let c0_i32_1173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1159 : BitVec 32 := 2#32
  let v1416 : BitVec 32 := Scalar.addi v2 c2_i32_1159
  let c8_i32_1160 : BitVec 32 := 8#32
  let c0_i32_1161 : BitVec 32 := 0#32
  let v1417 : BitVec 1 := Scalar.cmpi .eq c8_i32_1160 c0_i32_1161
  let c1_i32_1162 : BitVec 32 := 1#32
  let v1418 : BitVec 32 := Scalar.select v1417 c1_i32_1162 c8_i32_1160
  let v1419 : BitVec 32 := Scalar.remsi v1416 v1418
  let c0_i32_1164 : BitVec 32 := 0#32
  let v1421 : BitVec 1 := Scalar.cmpi .slt v1419 c0_i32_1164
  let c0_i32_1165 : BitVec 32 := 0#32
  let v1422 : BitVec 1 := Scalar.cmpi .slt v1418 c0_i32_1165
  let v1423 : BitVec 1 := Scalar.xori v1421 v1422
  let c0_i32_1163 : BitVec 32 := 0#32
  let v1420 : BitVec 1 := Scalar.cmpi .ne v1419 c0_i32_1163
  let v1424 : BitVec 1 := Scalar.andi v1423 v1420
  let v1425 : BitVec 32 := Scalar.addi v1419 v1418
  let v1426 : BitVec 32 := Scalar.select v1424 v1425 v1419
  let c1_i32_1172 : BitVec 32 := 1#32
  let v1429 : BitVec 32 := Scalar.muli v1426 c1_i32_1172
  let v1430 : BitVec 32 := Scalar.addi c0_i32_1173 v1429
  v1430.toNat
def k0_dev38 (d0 : Dev nD) : Nat :=
  let c0_i32_1190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1176 : BitVec 32 := 3#32
  let v1437 : BitVec 32 := Scalar.addi v2 c3_i32_1176
  let c8_i32_1177 : BitVec 32 := 8#32
  let c0_i32_1178 : BitVec 32 := 0#32
  let v1438 : BitVec 1 := Scalar.cmpi .eq c8_i32_1177 c0_i32_1178
  let c1_i32_1179 : BitVec 32 := 1#32
  let v1439 : BitVec 32 := Scalar.select v1438 c1_i32_1179 c8_i32_1177
  let v1440 : BitVec 32 := Scalar.remsi v1437 v1439
  let c0_i32_1181 : BitVec 32 := 0#32
  let v1442 : BitVec 1 := Scalar.cmpi .slt v1440 c0_i32_1181
  let c0_i32_1182 : BitVec 32 := 0#32
  let v1443 : BitVec 1 := Scalar.cmpi .slt v1439 c0_i32_1182
  let v1444 : BitVec 1 := Scalar.xori v1442 v1443
  let c0_i32_1180 : BitVec 32 := 0#32
  let v1441 : BitVec 1 := Scalar.cmpi .ne v1440 c0_i32_1180
  let v1445 : BitVec 1 := Scalar.andi v1444 v1441
  let v1446 : BitVec 32 := Scalar.addi v1440 v1439
  let v1447 : BitVec 32 := Scalar.select v1445 v1446 v1440
  let c1_i32_1189 : BitVec 32 := 1#32
  let v1450 : BitVec 32 := Scalar.muli v1447 c1_i32_1189
  let v1451 : BitVec 32 := Scalar.addi c0_i32_1190 v1450
  v1451.toNat
def k0_dev39 (d0 : Dev nD) : Nat :=
  let c0_i32_1207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1193 : BitVec 32 := 4#32
  let v1458 : BitVec 32 := Scalar.addi v2 c4_i32_1193
  let c8_i32_1194 : BitVec 32 := 8#32
  let c0_i32_1195 : BitVec 32 := 0#32
  let v1459 : BitVec 1 := Scalar.cmpi .eq c8_i32_1194 c0_i32_1195
  let c1_i32_1196 : BitVec 32 := 1#32
  let v1460 : BitVec 32 := Scalar.select v1459 c1_i32_1196 c8_i32_1194
  let v1461 : BitVec 32 := Scalar.remsi v1458 v1460
  let c0_i32_1198 : BitVec 32 := 0#32
  let v1463 : BitVec 1 := Scalar.cmpi .slt v1461 c0_i32_1198
  let c0_i32_1199 : BitVec 32 := 0#32
  let v1464 : BitVec 1 := Scalar.cmpi .slt v1460 c0_i32_1199
  let v1465 : BitVec 1 := Scalar.xori v1463 v1464
  let c0_i32_1197 : BitVec 32 := 0#32
  let v1462 : BitVec 1 := Scalar.cmpi .ne v1461 c0_i32_1197
  let v1466 : BitVec 1 := Scalar.andi v1465 v1462
  let v1467 : BitVec 32 := Scalar.addi v1461 v1460
  let v1468 : BitVec 32 := Scalar.select v1466 v1467 v1461
  let c1_i32_1206 : BitVec 32 := 1#32
  let v1471 : BitVec 32 := Scalar.muli v1468 c1_i32_1206
  let v1472 : BitVec 32 := Scalar.addi c0_i32_1207 v1471
  v1472.toNat
def k0_dev40 (d0 : Dev nD) : Nat :=
  let c0_i32_1224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1210 : BitVec 32 := 5#32
  let v1479 : BitVec 32 := Scalar.addi v2 c5_i32_1210
  let c8_i32_1211 : BitVec 32 := 8#32
  let c0_i32_1212 : BitVec 32 := 0#32
  let v1480 : BitVec 1 := Scalar.cmpi .eq c8_i32_1211 c0_i32_1212
  let c1_i32_1213 : BitVec 32 := 1#32
  let v1481 : BitVec 32 := Scalar.select v1480 c1_i32_1213 c8_i32_1211
  let v1482 : BitVec 32 := Scalar.remsi v1479 v1481
  let c0_i32_1215 : BitVec 32 := 0#32
  let v1484 : BitVec 1 := Scalar.cmpi .slt v1482 c0_i32_1215
  let c0_i32_1216 : BitVec 32 := 0#32
  let v1485 : BitVec 1 := Scalar.cmpi .slt v1481 c0_i32_1216
  let v1486 : BitVec 1 := Scalar.xori v1484 v1485
  let c0_i32_1214 : BitVec 32 := 0#32
  let v1483 : BitVec 1 := Scalar.cmpi .ne v1482 c0_i32_1214
  let v1487 : BitVec 1 := Scalar.andi v1486 v1483
  let v1488 : BitVec 32 := Scalar.addi v1482 v1481
  let v1489 : BitVec 32 := Scalar.select v1487 v1488 v1482
  let c1_i32_1223 : BitVec 32 := 1#32
  let v1492 : BitVec 32 := Scalar.muli v1489 c1_i32_1223
  let v1493 : BitVec 32 := Scalar.addi c0_i32_1224 v1492
  v1493.toNat
def k0_dev41 (d0 : Dev nD) : Nat :=
  let c0_i32_1241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1227 : BitVec 32 := 6#32
  let v1500 : BitVec 32 := Scalar.addi v2 c6_i32_1227
  let c8_i32_1228 : BitVec 32 := 8#32
  let c0_i32_1229 : BitVec 32 := 0#32
  let v1501 : BitVec 1 := Scalar.cmpi .eq c8_i32_1228 c0_i32_1229
  let c1_i32_1230 : BitVec 32 := 1#32
  let v1502 : BitVec 32 := Scalar.select v1501 c1_i32_1230 c8_i32_1228
  let v1503 : BitVec 32 := Scalar.remsi v1500 v1502
  let c0_i32_1232 : BitVec 32 := 0#32
  let v1505 : BitVec 1 := Scalar.cmpi .slt v1503 c0_i32_1232
  let c0_i32_1233 : BitVec 32 := 0#32
  let v1506 : BitVec 1 := Scalar.cmpi .slt v1502 c0_i32_1233
  let v1507 : BitVec 1 := Scalar.xori v1505 v1506
  let c0_i32_1231 : BitVec 32 := 0#32
  let v1504 : BitVec 1 := Scalar.cmpi .ne v1503 c0_i32_1231
  let v1508 : BitVec 1 := Scalar.andi v1507 v1504
  let v1509 : BitVec 32 := Scalar.addi v1503 v1502
  let v1510 : BitVec 32 := Scalar.select v1508 v1509 v1503
  let c1_i32_1240 : BitVec 32 := 1#32
  let v1513 : BitVec 32 := Scalar.muli v1510 c1_i32_1240
  let v1514 : BitVec 32 := Scalar.addi c0_i32_1241 v1513
  v1514.toNat
def k0_dev42 (d0 : Dev nD) : Nat :=
  let c0_i32_1258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1244 : BitVec 32 := 7#32
  let v1521 : BitVec 32 := Scalar.addi v2 c7_i32_1244
  let c8_i32_1245 : BitVec 32 := 8#32
  let c0_i32_1246 : BitVec 32 := 0#32
  let v1522 : BitVec 1 := Scalar.cmpi .eq c8_i32_1245 c0_i32_1246
  let c1_i32_1247 : BitVec 32 := 1#32
  let v1523 : BitVec 32 := Scalar.select v1522 c1_i32_1247 c8_i32_1245
  let v1524 : BitVec 32 := Scalar.remsi v1521 v1523
  let c0_i32_1249 : BitVec 32 := 0#32
  let v1526 : BitVec 1 := Scalar.cmpi .slt v1524 c0_i32_1249
  let c0_i32_1250 : BitVec 32 := 0#32
  let v1527 : BitVec 1 := Scalar.cmpi .slt v1523 c0_i32_1250
  let v1528 : BitVec 1 := Scalar.xori v1526 v1527
  let c0_i32_1248 : BitVec 32 := 0#32
  let v1525 : BitVec 1 := Scalar.cmpi .ne v1524 c0_i32_1248
  let v1529 : BitVec 1 := Scalar.andi v1528 v1525
  let v1530 : BitVec 32 := Scalar.addi v1524 v1523
  let v1531 : BitVec 32 := Scalar.select v1529 v1530 v1524
  let c1_i32_1257 : BitVec 32 := 1#32
  let v1534 : BitVec 32 := Scalar.muli v1531 c1_i32_1257
  let v1535 : BitVec 32 := Scalar.addi c0_i32_1258 v1534
  v1535.toNat
def k0_dev43 (d0 : Dev nD) : Nat :=
  let c0_i32_1359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1321 : BitVec 32 := 1#32
  let v1582 : BitVec 32 := Scalar.subi v2 c1_i32_1321
  let c8_i32_1322 : BitVec 32 := 8#32
  let c0_i32_1323 : BitVec 32 := 0#32
  let v1583 : BitVec 1 := Scalar.cmpi .eq c8_i32_1322 c0_i32_1323
  let c1_i32_1324 : BitVec 32 := 1#32
  let v1584 : BitVec 32 := Scalar.select v1583 c1_i32_1324 c8_i32_1322
  let v1585 : BitVec 32 := Scalar.remsi v1582 v1584
  let c0_i32_1326 : BitVec 32 := 0#32
  let v1587 : BitVec 1 := Scalar.cmpi .slt v1585 c0_i32_1326
  let c0_i32_1327 : BitVec 32 := 0#32
  let v1588 : BitVec 1 := Scalar.cmpi .slt v1584 c0_i32_1327
  let v1589 : BitVec 1 := Scalar.xori v1587 v1588
  let c0_i32_1325 : BitVec 32 := 0#32
  let v1586 : BitVec 1 := Scalar.cmpi .ne v1585 c0_i32_1325
  let v1590 : BitVec 1 := Scalar.andi v1589 v1586
  let v1591 : BitVec 32 := Scalar.addi v1585 v1584
  let v1592 : BitVec 32 := Scalar.select v1590 v1591 v1585
  let c1_i32_1358 : BitVec 32 := 1#32
  let v1631 : BitVec 32 := Scalar.muli v1592 c1_i32_1358
  let v1632 : BitVec 32 := Scalar.addi c0_i32_1359 v1631
  v1632.toNat
def k0_dev44 (d0 : Dev nD) : Nat :=
  let c0_i32_1371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1336 : BitVec 32 := 2#32
  let v1599 : BitVec 32 := Scalar.subi v2 c2_i32_1336
  let c8_i32_1337 : BitVec 32 := 8#32
  let c0_i32_1338 : BitVec 32 := 0#32
  let v1600 : BitVec 1 := Scalar.cmpi .eq c8_i32_1337 c0_i32_1338
  let c1_i32_1339 : BitVec 32 := 1#32
  let v1601 : BitVec 32 := Scalar.select v1600 c1_i32_1339 c8_i32_1337
  let v1602 : BitVec 32 := Scalar.remsi v1599 v1601
  let c0_i32_1341 : BitVec 32 := 0#32
  let v1604 : BitVec 1 := Scalar.cmpi .slt v1602 c0_i32_1341
  let c0_i32_1342 : BitVec 32 := 0#32
  let v1605 : BitVec 1 := Scalar.cmpi .slt v1601 c0_i32_1342
  let v1606 : BitVec 1 := Scalar.xori v1604 v1605
  let c0_i32_1340 : BitVec 32 := 0#32
  let v1603 : BitVec 1 := Scalar.cmpi .ne v1602 c0_i32_1340
  let v1607 : BitVec 1 := Scalar.andi v1606 v1603
  let v1608 : BitVec 32 := Scalar.addi v1602 v1601
  let v1609 : BitVec 32 := Scalar.select v1607 v1608 v1602
  let c1_i32_1370 : BitVec 32 := 1#32
  let v1648 : BitVec 32 := Scalar.muli v1609 c1_i32_1370
  let v1649 : BitVec 32 := Scalar.addi c0_i32_1371 v1648
  v1649.toNat
def k0_dev45 (d0 : Dev nD) : Nat :=
  let c0_i32_1420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1382 : BitVec 32 := 3#32
  let v1662 : BitVec 32 := Scalar.subi v2 c3_i32_1382
  let c8_i32_1383 : BitVec 32 := 8#32
  let c0_i32_1384 : BitVec 32 := 0#32
  let v1663 : BitVec 1 := Scalar.cmpi .eq c8_i32_1383 c0_i32_1384
  let c1_i32_1385 : BitVec 32 := 1#32
  let v1664 : BitVec 32 := Scalar.select v1663 c1_i32_1385 c8_i32_1383
  let v1665 : BitVec 32 := Scalar.remsi v1662 v1664
  let c0_i32_1387 : BitVec 32 := 0#32
  let v1667 : BitVec 1 := Scalar.cmpi .slt v1665 c0_i32_1387
  let c0_i32_1388 : BitVec 32 := 0#32
  let v1668 : BitVec 1 := Scalar.cmpi .slt v1664 c0_i32_1388
  let v1669 : BitVec 1 := Scalar.xori v1667 v1668
  let c0_i32_1386 : BitVec 32 := 0#32
  let v1666 : BitVec 1 := Scalar.cmpi .ne v1665 c0_i32_1386
  let v1670 : BitVec 1 := Scalar.andi v1669 v1666
  let v1671 : BitVec 32 := Scalar.addi v1665 v1664
  let v1672 : BitVec 32 := Scalar.select v1670 v1671 v1665
  let c1_i32_1419 : BitVec 32 := 1#32
  let v1711 : BitVec 32 := Scalar.muli v1672 c1_i32_1419
  let v1712 : BitVec 32 := Scalar.addi c0_i32_1420 v1711
  v1712.toNat
def k0_dev46 (d0 : Dev nD) : Nat :=
  let c0_i32_1432 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1397 : BitVec 32 := 4#32
  let v1679 : BitVec 32 := Scalar.subi v2 c4_i32_1397
  let c8_i32_1398 : BitVec 32 := 8#32
  let c0_i32_1399 : BitVec 32 := 0#32
  let v1680 : BitVec 1 := Scalar.cmpi .eq c8_i32_1398 c0_i32_1399
  let c1_i32_1400 : BitVec 32 := 1#32
  let v1681 : BitVec 32 := Scalar.select v1680 c1_i32_1400 c8_i32_1398
  let v1682 : BitVec 32 := Scalar.remsi v1679 v1681
  let c0_i32_1402 : BitVec 32 := 0#32
  let v1684 : BitVec 1 := Scalar.cmpi .slt v1682 c0_i32_1402
  let c0_i32_1403 : BitVec 32 := 0#32
  let v1685 : BitVec 1 := Scalar.cmpi .slt v1681 c0_i32_1403
  let v1686 : BitVec 1 := Scalar.xori v1684 v1685
  let c0_i32_1401 : BitVec 32 := 0#32
  let v1683 : BitVec 1 := Scalar.cmpi .ne v1682 c0_i32_1401
  let v1687 : BitVec 1 := Scalar.andi v1686 v1683
  let v1688 : BitVec 32 := Scalar.addi v1682 v1681
  let v1689 : BitVec 32 := Scalar.select v1687 v1688 v1682
  let c1_i32_1431 : BitVec 32 := 1#32
  let v1728 : BitVec 32 := Scalar.muli v1689 c1_i32_1431
  let v1729 : BitVec 32 := Scalar.addi c0_i32_1432 v1728
  v1729.toNat
def k0_dev47 (d0 : Dev nD) : Nat :=
  let c0_i32_1481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1443 : BitVec 32 := 5#32
  let v1742 : BitVec 32 := Scalar.subi v2 c5_i32_1443
  let c8_i32_1444 : BitVec 32 := 8#32
  let c0_i32_1445 : BitVec 32 := 0#32
  let v1743 : BitVec 1 := Scalar.cmpi .eq c8_i32_1444 c0_i32_1445
  let c1_i32_1446 : BitVec 32 := 1#32
  let v1744 : BitVec 32 := Scalar.select v1743 c1_i32_1446 c8_i32_1444
  let v1745 : BitVec 32 := Scalar.remsi v1742 v1744
  let c0_i32_1448 : BitVec 32 := 0#32
  let v1747 : BitVec 1 := Scalar.cmpi .slt v1745 c0_i32_1448
  let c0_i32_1449 : BitVec 32 := 0#32
  let v1748 : BitVec 1 := Scalar.cmpi .slt v1744 c0_i32_1449
  let v1749 : BitVec 1 := Scalar.xori v1747 v1748
  let c0_i32_1447 : BitVec 32 := 0#32
  let v1746 : BitVec 1 := Scalar.cmpi .ne v1745 c0_i32_1447
  let v1750 : BitVec 1 := Scalar.andi v1749 v1746
  let v1751 : BitVec 32 := Scalar.addi v1745 v1744
  let v1752 : BitVec 32 := Scalar.select v1750 v1751 v1745
  let c1_i32_1480 : BitVec 32 := 1#32
  let v1791 : BitVec 32 := Scalar.muli v1752 c1_i32_1480
  let v1792 : BitVec 32 := Scalar.addi c0_i32_1481 v1791
  v1792.toNat
def k0_dev48 (d0 : Dev nD) : Nat :=
  let c0_i32_1493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1458 : BitVec 32 := 6#32
  let v1759 : BitVec 32 := Scalar.subi v2 c6_i32_1458
  let c8_i32_1459 : BitVec 32 := 8#32
  let c0_i32_1460 : BitVec 32 := 0#32
  let v1760 : BitVec 1 := Scalar.cmpi .eq c8_i32_1459 c0_i32_1460
  let c1_i32_1461 : BitVec 32 := 1#32
  let v1761 : BitVec 32 := Scalar.select v1760 c1_i32_1461 c8_i32_1459
  let v1762 : BitVec 32 := Scalar.remsi v1759 v1761
  let c0_i32_1463 : BitVec 32 := 0#32
  let v1764 : BitVec 1 := Scalar.cmpi .slt v1762 c0_i32_1463
  let c0_i32_1464 : BitVec 32 := 0#32
  let v1765 : BitVec 1 := Scalar.cmpi .slt v1761 c0_i32_1464
  let v1766 : BitVec 1 := Scalar.xori v1764 v1765
  let c0_i32_1462 : BitVec 32 := 0#32
  let v1763 : BitVec 1 := Scalar.cmpi .ne v1762 c0_i32_1462
  let v1767 : BitVec 1 := Scalar.andi v1766 v1763
  let v1768 : BitVec 32 := Scalar.addi v1762 v1761
  let v1769 : BitVec 32 := Scalar.select v1767 v1768 v1762
  let c1_i32_1492 : BitVec 32 := 1#32
  let v1808 : BitVec 32 := Scalar.muli v1769 c1_i32_1492
  let v1809 : BitVec 32 := Scalar.addi c0_i32_1493 v1808
  v1809.toNat
def k0_dev49 (d0 : Dev nD) : Nat :=
  let c0_i32_1525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1504 : BitVec 32 := 7#32
  let v1822 : BitVec 32 := Scalar.subi v2 c7_i32_1504
  let c8_i32_1505 : BitVec 32 := 8#32
  let c0_i32_1506 : BitVec 32 := 0#32
  let v1823 : BitVec 1 := Scalar.cmpi .eq c8_i32_1505 c0_i32_1506
  let c1_i32_1507 : BitVec 32 := 1#32
  let v1824 : BitVec 32 := Scalar.select v1823 c1_i32_1507 c8_i32_1505
  let v1825 : BitVec 32 := Scalar.remsi v1822 v1824
  let c0_i32_1509 : BitVec 32 := 0#32
  let v1827 : BitVec 1 := Scalar.cmpi .slt v1825 c0_i32_1509
  let c0_i32_1510 : BitVec 32 := 0#32
  let v1828 : BitVec 1 := Scalar.cmpi .slt v1824 c0_i32_1510
  let v1829 : BitVec 1 := Scalar.xori v1827 v1828
  let c0_i32_1508 : BitVec 32 := 0#32
  let v1826 : BitVec 1 := Scalar.cmpi .ne v1825 c0_i32_1508
  let v1830 : BitVec 1 := Scalar.andi v1829 v1826
  let v1831 : BitVec 32 := Scalar.addi v1825 v1824
  let v1832 : BitVec 32 := Scalar.select v1830 v1831 v1825
  let c1_i32_1524 : BitVec 32 := 1#32
  let v1849 : BitVec 32 := Scalar.muli v1832 c1_i32_1524
  let v1850 : BitVec 32 := Scalar.addi c0_i32_1525 v1849
  v1850.toNat
def k0_dev50 (d0 : Dev nD) : Nat :=
  let c0_i32_1712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1698 : BitVec 32 := 1#32
  let v2045 : BitVec 32 := Scalar.addi v2 c1_i32_1698
  let c8_i32_1699 : BitVec 32 := 8#32
  let c0_i32_1700 : BitVec 32 := 0#32
  let v2046 : BitVec 1 := Scalar.cmpi .eq c8_i32_1699 c0_i32_1700
  let c1_i32_1701 : BitVec 32 := 1#32
  let v2047 : BitVec 32 := Scalar.select v2046 c1_i32_1701 c8_i32_1699
  let v2048 : BitVec 32 := Scalar.remsi v2045 v2047
  let c0_i32_1703 : BitVec 32 := 0#32
  let v2050 : BitVec 1 := Scalar.cmpi .slt v2048 c0_i32_1703
  let c0_i32_1704 : BitVec 32 := 0#32
  let v2051 : BitVec 1 := Scalar.cmpi .slt v2047 c0_i32_1704
  let v2052 : BitVec 1 := Scalar.xori v2050 v2051
  let c0_i32_1702 : BitVec 32 := 0#32
  let v2049 : BitVec 1 := Scalar.cmpi .ne v2048 c0_i32_1702
  let v2053 : BitVec 1 := Scalar.andi v2052 v2049
  let v2054 : BitVec 32 := Scalar.addi v2048 v2047
  let v2055 : BitVec 32 := Scalar.select v2053 v2054 v2048
  let c1_i32_1711 : BitVec 32 := 1#32
  let v2058 : BitVec 32 := Scalar.muli v2055 c1_i32_1711
  let v2059 : BitVec 32 := Scalar.addi c0_i32_1712 v2058
  v2059.toNat
def k0_dev51 (d0 : Dev nD) : Nat :=
  let c0_i32_1729 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1715 : BitVec 32 := 2#32
  let v2066 : BitVec 32 := Scalar.addi v2 c2_i32_1715
  let c8_i32_1716 : BitVec 32 := 8#32
  let c0_i32_1717 : BitVec 32 := 0#32
  let v2067 : BitVec 1 := Scalar.cmpi .eq c8_i32_1716 c0_i32_1717
  let c1_i32_1718 : BitVec 32 := 1#32
  let v2068 : BitVec 32 := Scalar.select v2067 c1_i32_1718 c8_i32_1716
  let v2069 : BitVec 32 := Scalar.remsi v2066 v2068
  let c0_i32_1720 : BitVec 32 := 0#32
  let v2071 : BitVec 1 := Scalar.cmpi .slt v2069 c0_i32_1720
  let c0_i32_1721 : BitVec 32 := 0#32
  let v2072 : BitVec 1 := Scalar.cmpi .slt v2068 c0_i32_1721
  let v2073 : BitVec 1 := Scalar.xori v2071 v2072
  let c0_i32_1719 : BitVec 32 := 0#32
  let v2070 : BitVec 1 := Scalar.cmpi .ne v2069 c0_i32_1719
  let v2074 : BitVec 1 := Scalar.andi v2073 v2070
  let v2075 : BitVec 32 := Scalar.addi v2069 v2068
  let v2076 : BitVec 32 := Scalar.select v2074 v2075 v2069
  let c1_i32_1728 : BitVec 32 := 1#32
  let v2079 : BitVec 32 := Scalar.muli v2076 c1_i32_1728
  let v2080 : BitVec 32 := Scalar.addi c0_i32_1729 v2079
  v2080.toNat
def k0_dev52 (d0 : Dev nD) : Nat :=
  let c0_i32_1746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1732 : BitVec 32 := 3#32
  let v2087 : BitVec 32 := Scalar.addi v2 c3_i32_1732
  let c8_i32_1733 : BitVec 32 := 8#32
  let c0_i32_1734 : BitVec 32 := 0#32
  let v2088 : BitVec 1 := Scalar.cmpi .eq c8_i32_1733 c0_i32_1734
  let c1_i32_1735 : BitVec 32 := 1#32
  let v2089 : BitVec 32 := Scalar.select v2088 c1_i32_1735 c8_i32_1733
  let v2090 : BitVec 32 := Scalar.remsi v2087 v2089
  let c0_i32_1737 : BitVec 32 := 0#32
  let v2092 : BitVec 1 := Scalar.cmpi .slt v2090 c0_i32_1737
  let c0_i32_1738 : BitVec 32 := 0#32
  let v2093 : BitVec 1 := Scalar.cmpi .slt v2089 c0_i32_1738
  let v2094 : BitVec 1 := Scalar.xori v2092 v2093
  let c0_i32_1736 : BitVec 32 := 0#32
  let v2091 : BitVec 1 := Scalar.cmpi .ne v2090 c0_i32_1736
  let v2095 : BitVec 1 := Scalar.andi v2094 v2091
  let v2096 : BitVec 32 := Scalar.addi v2090 v2089
  let v2097 : BitVec 32 := Scalar.select v2095 v2096 v2090
  let c1_i32_1745 : BitVec 32 := 1#32
  let v2100 : BitVec 32 := Scalar.muli v2097 c1_i32_1745
  let v2101 : BitVec 32 := Scalar.addi c0_i32_1746 v2100
  v2101.toNat
def k0_dev53 (d0 : Dev nD) : Nat :=
  let c0_i32_1763 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1749 : BitVec 32 := 4#32
  let v2108 : BitVec 32 := Scalar.addi v2 c4_i32_1749
  let c8_i32_1750 : BitVec 32 := 8#32
  let c0_i32_1751 : BitVec 32 := 0#32
  let v2109 : BitVec 1 := Scalar.cmpi .eq c8_i32_1750 c0_i32_1751
  let c1_i32_1752 : BitVec 32 := 1#32
  let v2110 : BitVec 32 := Scalar.select v2109 c1_i32_1752 c8_i32_1750
  let v2111 : BitVec 32 := Scalar.remsi v2108 v2110
  let c0_i32_1754 : BitVec 32 := 0#32
  let v2113 : BitVec 1 := Scalar.cmpi .slt v2111 c0_i32_1754
  let c0_i32_1755 : BitVec 32 := 0#32
  let v2114 : BitVec 1 := Scalar.cmpi .slt v2110 c0_i32_1755
  let v2115 : BitVec 1 := Scalar.xori v2113 v2114
  let c0_i32_1753 : BitVec 32 := 0#32
  let v2112 : BitVec 1 := Scalar.cmpi .ne v2111 c0_i32_1753
  let v2116 : BitVec 1 := Scalar.andi v2115 v2112
  let v2117 : BitVec 32 := Scalar.addi v2111 v2110
  let v2118 : BitVec 32 := Scalar.select v2116 v2117 v2111
  let c1_i32_1762 : BitVec 32 := 1#32
  let v2121 : BitVec 32 := Scalar.muli v2118 c1_i32_1762
  let v2122 : BitVec 32 := Scalar.addi c0_i32_1763 v2121
  v2122.toNat
def k0_dev54 (d0 : Dev nD) : Nat :=
  let c0_i32_1780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1766 : BitVec 32 := 5#32
  let v2129 : BitVec 32 := Scalar.addi v2 c5_i32_1766
  let c8_i32_1767 : BitVec 32 := 8#32
  let c0_i32_1768 : BitVec 32 := 0#32
  let v2130 : BitVec 1 := Scalar.cmpi .eq c8_i32_1767 c0_i32_1768
  let c1_i32_1769 : BitVec 32 := 1#32
  let v2131 : BitVec 32 := Scalar.select v2130 c1_i32_1769 c8_i32_1767
  let v2132 : BitVec 32 := Scalar.remsi v2129 v2131
  let c0_i32_1771 : BitVec 32 := 0#32
  let v2134 : BitVec 1 := Scalar.cmpi .slt v2132 c0_i32_1771
  let c0_i32_1772 : BitVec 32 := 0#32
  let v2135 : BitVec 1 := Scalar.cmpi .slt v2131 c0_i32_1772
  let v2136 : BitVec 1 := Scalar.xori v2134 v2135
  let c0_i32_1770 : BitVec 32 := 0#32
  let v2133 : BitVec 1 := Scalar.cmpi .ne v2132 c0_i32_1770
  let v2137 : BitVec 1 := Scalar.andi v2136 v2133
  let v2138 : BitVec 32 := Scalar.addi v2132 v2131
  let v2139 : BitVec 32 := Scalar.select v2137 v2138 v2132
  let c1_i32_1779 : BitVec 32 := 1#32
  let v2142 : BitVec 32 := Scalar.muli v2139 c1_i32_1779
  let v2143 : BitVec 32 := Scalar.addi c0_i32_1780 v2142
  v2143.toNat
def k0_dev55 (d0 : Dev nD) : Nat :=
  let c0_i32_1797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1783 : BitVec 32 := 6#32
  let v2150 : BitVec 32 := Scalar.addi v2 c6_i32_1783
  let c8_i32_1784 : BitVec 32 := 8#32
  let c0_i32_1785 : BitVec 32 := 0#32
  let v2151 : BitVec 1 := Scalar.cmpi .eq c8_i32_1784 c0_i32_1785
  let c1_i32_1786 : BitVec 32 := 1#32
  let v2152 : BitVec 32 := Scalar.select v2151 c1_i32_1786 c8_i32_1784
  let v2153 : BitVec 32 := Scalar.remsi v2150 v2152
  let c0_i32_1788 : BitVec 32 := 0#32
  let v2155 : BitVec 1 := Scalar.cmpi .slt v2153 c0_i32_1788
  let c0_i32_1789 : BitVec 32 := 0#32
  let v2156 : BitVec 1 := Scalar.cmpi .slt v2152 c0_i32_1789
  let v2157 : BitVec 1 := Scalar.xori v2155 v2156
  let c0_i32_1787 : BitVec 32 := 0#32
  let v2154 : BitVec 1 := Scalar.cmpi .ne v2153 c0_i32_1787
  let v2158 : BitVec 1 := Scalar.andi v2157 v2154
  let v2159 : BitVec 32 := Scalar.addi v2153 v2152
  let v2160 : BitVec 32 := Scalar.select v2158 v2159 v2153
  let c1_i32_1796 : BitVec 32 := 1#32
  let v2163 : BitVec 32 := Scalar.muli v2160 c1_i32_1796
  let v2164 : BitVec 32 := Scalar.addi c0_i32_1797 v2163
  v2164.toNat
def k0_dev56 (d0 : Dev nD) : Nat :=
  let c0_i32_1814 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1800 : BitVec 32 := 7#32
  let v2171 : BitVec 32 := Scalar.addi v2 c7_i32_1800
  let c8_i32_1801 : BitVec 32 := 8#32
  let c0_i32_1802 : BitVec 32 := 0#32
  let v2172 : BitVec 1 := Scalar.cmpi .eq c8_i32_1801 c0_i32_1802
  let c1_i32_1803 : BitVec 32 := 1#32
  let v2173 : BitVec 32 := Scalar.select v2172 c1_i32_1803 c8_i32_1801
  let v2174 : BitVec 32 := Scalar.remsi v2171 v2173
  let c0_i32_1805 : BitVec 32 := 0#32
  let v2176 : BitVec 1 := Scalar.cmpi .slt v2174 c0_i32_1805
  let c0_i32_1806 : BitVec 32 := 0#32
  let v2177 : BitVec 1 := Scalar.cmpi .slt v2173 c0_i32_1806
  let v2178 : BitVec 1 := Scalar.xori v2176 v2177
  let c0_i32_1804 : BitVec 32 := 0#32
  let v2175 : BitVec 1 := Scalar.cmpi .ne v2174 c0_i32_1804
  let v2179 : BitVec 1 := Scalar.andi v2178 v2175
  let v2180 : BitVec 32 := Scalar.addi v2174 v2173
  let v2181 : BitVec 32 := Scalar.select v2179 v2180 v2174
  let c1_i32_1813 : BitVec 32 := 1#32
  let v2184 : BitVec 32 := Scalar.muli v2181 c1_i32_1813
  let v2185 : BitVec 32 := Scalar.addi c0_i32_1814 v2184
  v2185.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x512 : Shape := ⟨2, ![512, 512]⟩
abbrev S512x8192 : Shape := ⟨2, ![512, 8192]⟩
abbrev S8192x512 : Shape := ⟨2, ![8192, 512]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x8192, .f32⟩
  | .hbm, ⟨2, _⟩ => ⟨S8192x512, .f32⟩
  | .hbm, ⟨3, _⟩ => ⟨S512x8192, .f32⟩
  | .hbm, ⟨4, _⟩ => ⟨S8192x512, .f32⟩
  | .hbm, ⟨5, _⟩ => ⟨S512x8192, .f32⟩
  | .hbm, ⟨6, _⟩ => ⟨S8192x512, .f32⟩
  | .hbm, ⟨7, _⟩ => ⟨S512x8192, .f32⟩
  | .hbm, ⟨8, _⟩ => ⟨S_, .f32⟩
  | .hbm, ⟨9, _⟩ => ⟨S512x8192, .f32⟩
  | .hbm, ⟨10, _⟩ => ⟨S512x8192, .f32⟩
  | .hbm, ⟨11, _⟩ => ⟨S512x512, .f32⟩
  | .hbm, ⟨12, _⟩ => ⟨S512x8192, .f32⟩
  | .hbm, ⟨13, _⟩ => ⟨S_, .f32⟩
  | .hbm, ⟨14, _⟩ => ⟨S512x8192, .f32⟩
  | .hbm, ⟨15, _⟩ => ⟨S512x8192, .f32⟩
  | .hbm, ⟨16, _⟩ => ⟨S512x512, .f32⟩
  | .hbm, ⟨17, _⟩ => ⟨S512x8192, .f32⟩
  | .hbm, ⟨18, _⟩ => ⟨S_, .f32⟩
  | .hbm, ⟨19, _⟩ => ⟨S512x8192, .f32⟩
  | .hbm, ⟨20, _⟩ => ⟨S512x8192, .f32⟩
  | .hbm, ⟨21, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Program.lean ====
module

public import proofs.«01_k».proof.Proof.Gen.KernelIdeal.Launch
public import proofs.«01_k».proof.Proof.Gen.KernelIdeal.Skeleton

/-!
# The kernel's body as one program in the order of its operations

The printed body is cut into many parts and has every offset written out. Here the same operations are written
over the seven peers (`offs`) and the three layers, each piece taking what follows it as its last argument; the
kernel of the proof checker confirms that the two are one program (`cc0_body_eq`).
-/

@[expose] public section

set_option backward.proofsInPublic true

noncomputable section

namespace Cert.KernelIdeal.Proof

open Idealize.ShloMosaic Idealize.ShloMosaic.TcCoe Idealize.SL.Sem
open Cert.KernelIdeal.Gen

variable {F : FTy → Type} [FloatOps F]

/-- The programs of the body. -/
abbrev PR (F : FTy → Type) [FloatOps F] : Type 1 := Prog (TpuEff nD τ sig (Elt F) Λ₀ .tc) PUnit

/-- A block of 64 rows, in bf16. -/
abbrev Blk (F : FTy → Type) [FloatOps F] : Type := FVec F S64x512 .bf16
/-- A block of 64 rows, in f32. -/
abbrev Acc (F : FTy → Type) [FloatOps F] : Type := FVec F S64x512 .f32

/-- The seven peers of a device, by their distance less one. -/
abbrev offs : List (Fin 7) := [0, 1, 2, 3, 4, 5, 6]

/-- The distance of peer `o` as the word the program computes with. -/
abbrev wd (o : Fin 7) : BitVec 32 := BitVec.ofNat 32 (1 + o.val)

/-- The program's remainder by 8 of a word, as it writes it. -/
def modW (t : BitVec 32) : Nat :=
  let s := Scalar.select (Scalar.cmpi .eq 8#32 0#32) 1#32 8#32
  let r := Scalar.remsi t s
  let w := Scalar.select (Scalar.andi (Scalar.xori (Scalar.cmpi .slt r 0#32) (Scalar.cmpi .slt s 0#32))
    (Scalar.cmpi .ne r 0#32)) (Scalar.addi r s) r
  (Scalar.addi 0#32 (Scalar.muli w 1#32)).toNat

/-- This device's number as the program computes it. -/
def meW (c : Dev nD) : BitVec 32 := Scalar.remsi (Scalar.divsi (Dev.word c) 1#32) 8#32

/-- The device at distance `o` after `c`, as the program computes it. -/
def upW (c : Dev nD) (w : BitVec 32) : Nat := modW (Scalar.addi (meW c) w)
/-- The device at distance `o` before `c`, as the program computes it. -/
def dnW (c : Dev nD) (w : BitVec 32) : Nat := modW (Scalar.subi (meW c) w)

theorem upW_eq : ∀ (c : Dev nD) (o : Fin 7), upW c (wd o) = (c.val + (1 + o.val)) % 8 := by decide +kernel
theorem dnW_eq : ∀ (c : Dev nD) (o : Fin 7), dnW c (wd o) = (c.val + (7 - o.val)) % 8 := by decide +kernel

theorem upW_lt (c : Dev nD) (o : Fin 7) : upW c (wd o) < 8 := by
  rw [upW_eq]; exact Nat.mod_lt _ (by decide)
theorem dnW_lt (c : Dev nD) (o : Fin 7) : dnW c (wd o) < 8 := by
  rw [dnW_eq]; exact Nat.mod_lt _ (by decide)

/-- The send semaphore of peer `o` in phase `p`. -/
def sendS (p : Fin 7) (o : Fin 7) : DmaSem sig := (⟨8 + (8 * p.val + (1 + o.val)), by omega⟩ : Fin 120)
/-- The receive semaphore of peer `o` in phase `p`. -/
def recvS (p : Fin 7) (o : Fin 7) : DmaSem sig := (⟨64 + (8 * p.val + (1 + o.val)), by omega⟩ : Fin 120)

/-- The barrier semaphore. -/
abbrev barS : Sem sig := (SemArray.scalar (sig.barrier 0 rfl) : Sems sig S_).sem

/-- This device's rows of the activation buffer, as the copies name them. -/
abbrev xOwn (c : Dev nD) : Memref sig .tc .vmem S64x512 .bf16 :=
  (Memref.whole cc0_scratch0).slice (Rect.unit (s := S512x512) (k0_off2 c) S64x512.size (k0_off2_inb c)) (fun _ => rfl)
/-- This device's rows of the buffer of received partial sums, as the copies name them. -/
abbrev rOwn (c : Dev nD) : Memref sig .tc .vmem S64x512 .bf16 :=
  (Memref.whole cc0_scratch2).slice (Rect.unit (s := S512x512) (k0_off2 c) S64x512.size (k0_off2_inb c)) (fun _ => rfl)
/-- The rows of the buffer of partial sums to send that are for the peer at distance `o` before. -/
abbrev pRow (c : Dev nD) (o : Fin 7) : Memref sig .tc .vmem S64x512 .bf16 :=
  (Memref.whole cc0_scratch1).slice
    (Rect.unit (s := S512x512) (k0_off4 c (wd o)) S64x512.size (k0_off4_inb c o)) (fun _ => rfl)

/-- The word facts of the three copied views. -/
theorem xOwn_words (c : Dev nD) : (xOwn c).view.WordExact :=
  (Memref.isWhole_whole cc0_scratch0).wordExact_slice rfl _ (k0_off2_wordsbf16 c)
theorem rOwn_words (c : Dev nD) : (rOwn c).view.WordExact :=
  (Memref.isWhole_whole cc0_scratch2).wordExact_slice rfl _ (k0_off2_wordsbf16 c)
theorem pRow_words (c : Dev nD) (o : Fin 7) : (pRow c o).view.WordExact :=
  (Memref.isWhole_whole cc0_scratch1).wordExact_slice rfl _ (k0_off4_wordsbf16 c o)

/-- Signal the barrier of every peer. -/
def signals (c : Dev nD) : List (Fin 7) → PR F → PR F
  | [], k => k
  | o :: l, k => .op (.semSignal (Dev.tc (⟨upW c (wd o), upW_lt c o⟩ : Dev nD)) barS ((1 : ℕ) : ℤ)) fun _ => signals c l k

/-- Copy this device's block of activations to every peer. -/
def gather (c : Dev nD) (p : Fin 7) : List (Fin 7) → PR F → PR F
  | [], k => k
  | o :: l, k =>
    .op (.enqueueDma (xOwn c) (.remote (Dev.tc (⟨upW c (wd o), upW_lt c o⟩ : Dev nD)) (xOwn c) (.dma (sendS p o)))
      (.dma (recvS p o)) (xOwn_words c) (xOwn_words c) ⟨⟨rfl, Or.inl rfl⟩, trivial⟩) fun _ => gather c p l k

/-- Copy the partial sum for the peer at distance `o` before to that peer. -/
def scatter (c : Dev nD) (p o : Fin 7) (k : PR F) : PR F :=
  .op (.enqueueDma (pRow c o) (.remote (Dev.tc (⟨dnW c (wd o), dnW_lt c o⟩ : Dev nD)) (rOwn c) (.dma (sendS p o)))
    (.dma (recvS p o)) (pRow_words c o) (rOwn_words c) ⟨⟨rfl, Or.inl rfl⟩, trivial⟩) fun _ => k

/-- Wait for the block of peer `o` of a gather. -/
def waitBlock (c : Dev nD) (p o : Fin 7) (k : PR F) : PR F :=
  .op (.waitDma2 (recvS p o) (xOwn c) (xOwn c) (xOwn_words c) (xOwn_words c)) fun _ => k

/-- Wait for the partial sum of peer `o` of a scatter. -/
def waitPart (c : Dev nD) (p o : Fin 7) (k : PR F) : PR F :=
  .op (.waitDma2 (recvS p o) (pRow c o) (rOwn c) (pRow_words c o) (rOwn_words c)) fun _ => k

/-- Wait for the sends of a gather. -/
def gatherSent (c : Dev nD) (p : Fin 7) : List (Fin 7) → PR F → PR F
  | [], k => k
  | o :: l, k => .op (.waitDma2 (sendS p o) (xOwn c) (xOwn c) (xOwn_words c) (xOwn_words c)) fun _ => gatherSent c p l k

/-- Wait for the sends of a scatter. -/
def scatterSent (c : Dev nD) (p : Fin 7) : List (Fin 7) → PR F → PR F
  | [], k => k
  | o :: l, k =>
    .op (.waitDma2 (sendS p o) (rOwn c) (pRow c o) (rOwn_words c) (pRow_words c o)) fun _ => scatterSent c p l k

/-- The block of peer `o` as the loads name it. -/
abbrev off3 (c : Dev nD) (o : Fin 7) : Rect S512x512 :=
  Rect.unit (s := S512x512) (k0_off3 c (wd o)) S64x512.size (k0_off3_inb c o)
/-- The partial sum of peer `o` as the loads name it. -/
abbrev off5 (c : Dev nD) (o : Fin 7) : Rect S512x512 :=
  Rect.unit (s := S512x512) (k0_off5 c (wd o)) S64x512.size (k0_off5_inb c o)
/-- This device's block as the loads name it. -/
abbrev off1 (c : Dev nD) : Rect S512x512 :=
  Rect.unit (s := S512x512) (k0_off1 c) S64x512.size (k0_off1_inb c)

/-- Load a block of the activation buffer. -/
def loadX (c : Dev nD) (o : Fin 7) (k : Blk F → PR F) : PR F :=
  .op (.load (Memref.whole cc0_scratch0) (off3 c o).toLoadRect (View.loadsAt_vmem h_S64x512)) fun (v : Vec F S64x512 .bf16) => k v

/-- Store this device's block of the activation buffer. -/
def storeOwn (c : Dev nD) (v : Blk F) (k : PR F) : PR F :=
  .op (.load (Memref.whole cc0_scratch0) (off1 c).toLoadRect (View.loadsAt_vmem h_S64x512)) fun _ =>
  .op (.store (Memref.whole cc0_scratch0) (off1 c) v Finset.univ (View.stores_vmem h_S64x512
    ((Memref.isWhole_whole cc0_scratch0).storeExact_slice rfl _ (k0_off1_packedbf16 c)) (fun _ => rfl)) (.inl rfl)) fun _ => k

/-- Store the partial sum for peer `o`. -/
def storeP (c : Dev nD) (o : Fin 7) (v : Blk F) (k : PR F) : PR F :=
  .op (.load (Memref.whole cc0_scratch1) (off3 c o).toLoadRect (View.loadsAt_vmem h_S64x512)) fun _ =>
  .op (.store (Memref.whole cc0_scratch1) (off3 c o) v Finset.univ (View.stores_vmem h_S64x512
    ((Memref.isWhole_whole cc0_scratch1).storeExact_slice rfl _ (k0_off3_packedbf16 c o)) (fun _ => rfl)) (.inl rfl)) fun _ => k

/-- Two peers' blocks at once: wait for both, compute their partial sums in one product, send each back. -/
def pair (c : Dev nD) (p q o o' : Fin 7) (W₁ : FVec F S512x1024 .bf16) (W₂ : FVec F S1024x512 .bf16) (k : PR F) : PR F :=
  waitBlock c p o <| waitBlock c p o' <| loadX c o fun a => loadX c o' fun b =>
  storeP c o (k0_pay15 W₁ W₂ a b) <| scatter c q o <|
  storeP c o' (k0_pay16 W₁ W₂ a b) <| scatter c q o' k

/-- The last peer's block: wait, compute its partial sum, send it back. -/
def single (c : Dev nD) (p q o : Fin 7) (W₁ : FVec F S512x1024 .bf16) (W₂ : FVec F S1024x512 .bf16) (k : PR F) : PR F :=
  waitBlock c p o <| loadX c o fun a => storeP c o (k0_pay20 W₁ W₂ a) <| scatter c q o k

/-- The sum of this device's own partial sum and its peers'. -/
def reduce (c : Dev nD) (q : Fin 7) : List (Fin 7) → Acc F → (Acc F → PR F) → PR F
  | [], a, k => k a
  | o :: l, a, k => waitPart c q o <|
    .op (.load (Memref.whole cc0_scratch2) (off5 c o).toLoadRect (View.loadsAt_vmem h_S64x512)) fun (v : Vec F S64x512 .bf16) =>
    reduce c q l (addf a (extf .f32 v bitsLt_bf16_f32)) k

/-- The gather phase after `l` layers. -/
def gp (l : Fin 4) : Fin 7 := ⟨2 * l.val, by omega⟩
/-- The scatter phase of layer `l`. -/
def sp (l : Fin 3) : Fin 7 := ⟨2 * l.val + 1, by omega⟩

/-- One layer: the peers' partial sums in three pairs and a last one, the sum of the partial sums of this device's
    block, and the gather of that block. -/
def layer (c : Dev nD) (l : Fin 3) (own : Blk F) (W₁ : FVec F S512x1024 .bf16) (W₂ : FVec F S1024x512 .bf16)
    (k : Acc F → PR F) : PR F :=
  pair c (gp l.castSucc) (sp l) 0 1 W₁ W₂ <| pair c (gp l.castSucc) (sp l) 2 3 W₁ W₂ <|
  pair c (gp l.castSucc) (sp l) 4 5 W₁ W₂ <| single c (gp l.castSucc) (sp l) 6 W₁ W₂ <|
  gatherSent c (gp l.castSucc) offs <|
  reduce c (sp l) offs (k0_pay9 own W₁ W₂) fun acc =>
  storeOwn c (k0_pay60 acc) <| gather c (gp l.succ) offs <| scatterSent c (sp l) offs <| k acc

/-- Store this device's block of the result. -/
def outOwn (arg7 : Memref sig .tc .vmem S512x512 .f32) (c : Dev nD) (v : Acc F) (k : PR F) : PR F :=
  .op (.load arg7 (off1 c).toLoadRect (View.loadsAt_vmem h_S64x512)) fun _ =>
  .op (.store arg7 (off1 c) v Finset.univ (View.stores_vmem_bits_univ h_S64x512 rfl) (.inl rfl)) fun _ => k

/-- Store a peer's block of the result. -/
def outPeer (arg7 : Memref sig .tc .vmem S512x512 .f32) (c : Dev nD) (o : Fin 7) (v : Acc F) (k : PR F) : PR F :=
  .op (.load arg7 (off3 c o).toLoadRect (View.loadsAt_vmem h_S64x512)) fun _ =>
  .op (.store arg7 (off3 c o) v Finset.univ (View.stores_vmem_bits_univ h_S64x512 rfl) (.inl rfl)) fun _ => k

/-- The last gather's blocks, each stored in the result as it arrives. -/
def collect (arg7 : Memref sig .tc .vmem S512x512 .f32) (c : Dev nD) : List (Fin 7) → PR F → PR F
  | [], k => k
  | o :: l, k => waitBlock c 6 o <| loadX c o fun v => outPeer arg7 c o (extf .f32 v bitsLt_bf16_f32) <|
      collect arg7 c l k

/-- Load a whole window. -/
def loadW {s : Shape} (m : Memref sig .tc .vmem s .f32) (r : Rect s) (h : 0 < r.shape.numel)
    (k : (r.shape.Idx → Elt F .f32) → PR F) : PR F :=
  .op (.load m r.toLoadRect (View.loadsAt_vmem h)) fun v => k v

/-- The rectangles of the whole windows. -/
abbrev rX : Rect S64x512 := Rect.unit (s := S64x512) ![0, 0] S64x512.size inb_S64x512_S64x512_0_0
abbrev rA : Rect S512x1024 := Rect.unit (s := S512x1024) ![0, 0] S512x1024.size inb_S512x1024_S512x1024_0_0
abbrev rB : Rect S1024x512 := Rect.unit (s := S1024x512) ![0, 0] S1024x512.size inb_S1024x512_S1024x512_0_0

/-- The body: everything enters, the first gather, three layers, the last gather's blocks. -/
def body (arg0 : Memref sig .tc .vmem S64x512 .f32) (arg1 : Memref sig .tc .vmem S512x1024 .f32)
    (arg2 : Memref sig .tc .vmem S1024x512 .f32) (arg3 : Memref sig .tc .vmem S512x1024 .f32)
    (arg4 : Memref sig .tc .vmem S1024x512 .f32) (arg5 : Memref sig .tc .vmem S512x1024 .f32)
    (arg6 : Memref sig .tc .vmem S1024x512 .f32) (arg7 : Memref sig .tc .vmem S512x512 .f32) : PR F :=
  .op .deviceId fun c =>
  signals c offs <| .op (.semWait barS ((7 : ℕ) : ℤ)) fun _ =>
  loadW arg0 rX h_S64x512 fun x => storeOwn c (k0_pay1 x) <| gather c 0 offs <|
  loadW arg0 rX h_S64x512 fun x =>
  loadW arg1 rA h_S512x1024 fun a₁ => loadW arg2 rB h_S1024x512 fun b₁ =>
  loadW arg3 rA h_S512x1024 fun a₂ => loadW arg4 rB h_S1024x512 fun b₂ =>
  loadW arg5 rA h_S512x1024 fun a₃ => loadW arg6 rB h_S1024x512 fun b₃ =>
  layer c 0 (k0_pay2 x) (k0_pay3 a₁) (k0_pay4 b₁) fun acc₁ =>
  layer c 1 (truncf .bf16 acc₁ bitsLt_bf16_f32) (k0_pay5 a₂) (k0_pay6 b₂) fun acc₂ =>
  layer c 2 (truncf .bf16 acc₂ bitsLt_bf16_f32) (k0_pay7 a₃) (k0_pay8 b₃) fun acc₃ =>
  outOwn arg7 c acc₃ <| collect arg7 c offs <| gatherSent c 6 offs <| .ret ⟨⟩

set_option maxRecDepth 100000 in
/-- The printed body is this program. -/
theorem cc0_body_eq (arg0 : Memref sig .tc .vmem S64x512 .f32) (harg0 : arg0.IsWhole) (arg1 : Memref sig .tc .vmem S512x1024 .f32) (harg1 : arg1.IsWhole) (arg2 : Memref sig .tc .vmem S1024x512 .f32) (harg2 : arg2.IsWhole) (arg3 : Memref sig .tc .vmem S512x1024 .f32) (harg3 : arg3.IsWhole) (arg4 : Memref sig .tc .vmem S1024x512 .f32) (harg4 : arg4.IsWhole) (arg5 : Memref sig .tc .vmem S512x1024 .f32) (harg5 : arg5.IsWhole) (arg6 : Memref sig .tc .vmem S1024x512 .f32) (harg6 : arg6.IsWhole) (arg7 : Memref sig .tc .vmem S512x512 .f32) (harg7 : arg7.IsWhole) :
    cc0_body (F := F) arg0 harg0 arg1 harg1 arg2 harg2 arg3 harg3 arg4 harg4 arg5 harg5 arg6 harg6 arg7 harg7
      (Memref.whole cc0_scratch0) (Memref.isWhole_whole _) (Memref.whole cc0_scratch1) (Memref.isWhole_whole _)
      (Memref.whole cc0_scratch2) (Memref.isWhole_whole _) cc0_scratch3 cc0_scratch4
      = body arg0 arg1 arg2 arg3 arg4 arg5 arg6 arg7 := by
  rw [cc0_body_eq_skeleton]
  chain_rfl

end Cert.KernelIdeal.Proof

end

end
-- ==== Proof.Sched.lean ====
module

public import proofs.«01_k».proof.Proof.Program
public import Idealize.ShloMosaic.Lib.Pipeline.Launch
public import Idealize.ShloMosaic.Lib.Pipeline.Kit
public import Idealize.ShloMosaic.Lib.Rounds
public import Idealize.ShloMosaic.Lib.ShareLeaves
public import Idealize.ShloMosaic.Lib.MemrefSat
public import Idealize.ShloMosaic.Lib.Tactic

/-!
# What the devices exchange, and when

The values of the three layers as every device computes them; the cells of the protocol (the barrier, a send and a
receive semaphore for every phase and peer); what each signal and each copy hands over; the order in which the
cells may be waited for.
-/

@[expose] public section

set_option backward.proofsInPublic true

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## Peers -/

/-- The device at distance `1 + o` after `c`. -/
def up (c : Dev nD) (o : Fin 7) : Dev nD := ⟨(c.val + (1 + o.val)) % 8, Nat.mod_lt _ (by decide)⟩
/-- The device at distance `1 + o` before `c`. -/
def dn (c : Dev nD) (o : Fin 7) : Dev nD := ⟨(c.val + (7 - o.val)) % 8, Nat.mod_lt _ (by decide)⟩

theorem up_dn (c : Dev nD) (o : Fin 7) : up (dn c o) o = c := by revert c o; decide
theorem dn_up (c : Dev nD) (o : Fin 7) : dn (up c o) o = c := by revert c o; decide
theorem up_ne (c : Dev nD) (o : Fin 7) : up c o ≠ c := by revert c o; decide
theorem dn_ne (c : Dev nD) (o : Fin 7) : dn c o ≠ c := by revert c o; decide
theorem up_inj (c : Dev nD) (o o' : Fin 7) (h : up c o = up c o') : o = o' := by revert c o o'; decide
theorem dn_inj (c : Dev nD) (o o' : Fin 7) (h : dn c o = dn c o') : o = o' := by revert c o o'; decide

/-- The programs' device words name these peers. -/
theorem upW_dev (c : Dev nD) (o : Fin 7) : (⟨upW c (wd o), upW_lt c o⟩ : Dev nD) = up c o := Fin.ext (upW_eq c o)
theorem dnW_dev (c : Dev nD) (o : Fin 7) : (⟨dnW c (wd o), dnW_lt c o⟩ : Dev nD) = dn c o := Fin.ext (dnW_eq c o)

/-- A fact about every device is one about `c` and its seven peers after it. -/
def around (c : Dev nD) : Option (Fin 7) ≃ Dev nD where
  toFun x := x.elim c (up c)
  invFun d := if h : d = c then none else some ⟨((d.val + 8 - c.val) % 8) - 1, by
    have := d.isLt; have := c.isLt; omega⟩
  left_inv := by revert c; decide
  right_inv := by revert c; decide

/-- The same for the peers before it. -/
def aroundDn (c : Dev nD) : Option (Fin 7) ≃ Dev nD where
  toFun x := x.elim c (dn c)
  invFun d := if h : d = c then none else some ⟨((c.val + 8 - d.val) % 8) - 1, by
    have := d.isLt; have := c.isLt; omega⟩
  left_inv := by revert c; decide
  right_inv := by revert c; decide

/-! ## The values -/

variable (m : (ℓ : Loc nD τ sig) → Buf (Elt F) ℓ)

/-- The rows of the input that device `c` is given. -/
def xin (c : Dev nD) : (cc0_stg0_0 : Ref sig .tc).ty.Contents (Elt F) :=
  (win0_0.blk (0 : Fin 1)).view.read (Elt F) (m ((c : Thread nD τ).loc main_arg0))
/-- The first layer's columns and rows of weights that device `c` is given, -/
def a1 (c : Dev nD) : (cc0_stg1_0 : Ref sig .tc).ty.Contents (Elt F) :=
  (win0_1.blk (0 : Fin 1)).view.read (Elt F) (m ((c : Thread nD τ).loc main_arg1))
@[inherit_doc a1] def b1 (c : Dev nD) : (cc0_stg2_0 : Ref sig .tc).ty.Contents (Elt F) :=
  (win0_2.blk (0 : Fin 1)).view.read (Elt F) (m ((c : Thread nD τ).loc main_arg2))
/-- the second's, -/
def a2 (c : Dev nD) : (cc0_stg3_0 : Ref sig .tc).ty.Contents (Elt F) :=
  (win0_3.blk (0 : Fin 1)).view.read (Elt F) (m ((c : Thread nD τ).loc main_arg3))
@[inherit_doc a2] def b2 (c : Dev nD) : (cc0_stg4_0 : Ref sig .tc).ty.Contents (Elt F) :=
  (win0_4.blk (0 : Fin 1)).view.read (Elt F) (m ((c : Thread nD τ).loc main_arg4))
/-- and the third's. -/
def a3 (c : Dev nD) : (cc0_stg5_0 : Ref sig .tc).ty.Contents (Elt F) :=
  (win0_5.blk (0 : Fin 1)).view.read (Elt F) (m ((c : Thread nD τ).loc main_arg5))
@[inherit_doc a3] def b3 (c : Dev nD) : (cc0_stg6_0 : Ref sig .tc).ty.Contents (Elt F) :=
  (win0_6.blk (0 : Fin 1)).view.read (Elt F) (m ((c : Thread nD τ).loc main_arg6))

/-- The weights of layer `l` on device `c`, as the products take them. -/
def w1 (l : Fin 3) (c : Dev nD) : FVec F S512x1024 .bf16 :=
  match l with | 0 => k0_pay3 (a1 m c) | 1 => k0_pay5 (a2 m c) | 2 => k0_pay7 (a3 m c)
@[inherit_doc w1] def w2 (l : Fin 3) (c : Dev nD) : FVec F S1024x512 .bf16 :=
  match l with | 0 => k0_pay4 (b1 m c) | 1 => k0_pay6 (b2 m c) | 2 => k0_pay8 (b3 m c)

/-- The partial sum device `d`, with weights `W₁` and `W₂`, computes for the peer at distance `o` before it, the
    blocks of activations being `b`: two peers at a time, the last alone. -/
def partOf (W₁ : FVec F S512x1024 .bf16) (W₂ : FVec F S1024x512 .bf16) (b : Dev nD → Blk F) (d : Dev nD) : Fin 7 → Blk F
  | 0 => k0_pay15 W₁ W₂ (b (dn d 0)) (b (dn d 1))
  | 1 => k0_pay16 W₁ W₂ (b (dn d 0)) (b (dn d 1))
  | 2 => k0_pay15 W₁ W₂ (b (dn d 2)) (b (dn d 3))
  | 3 => k0_pay16 W₁ W₂ (b (dn d 2)) (b (dn d 3))
  | 4 => k0_pay15 W₁ W₂ (b (dn d 4)) (b (dn d 5))
  | 5 => k0_pay16 W₁ W₂ (b (dn d 4)) (b (dn d 5))
  | 6 => k0_pay20 W₁ W₂ (b (dn d 6))

/-- A block as it is stored. -/
def stored (v : Blk F) : Blk F := shapeCast S64x512 v shapeCasts_S64x512_S64x512

/-- Layer `l` of the activations `b`: the blocks of partial sums added up on every device. -/
def layerOf (l : Fin 3) (b : Dev nD → Blk F) (c : Dev nD) : Acc F :=
  offs.foldl (fun a o => addf a (extf .f32 (partOf (w1 m l (up c o)) (w2 m l (up c o)) (fun s => stored (b s)) (up c o) o) bitsLt_bf16_f32))
    (k0_pay9 (b c) (w1 m l c) (w2 m l c))

/-- The blocks of activations before layer `l`, and after the last. -/
def own : ℕ → Dev nD → Blk F
  | 0 => fun c => k0_pay2 (xin m c)
  | l + 1 => fun c => truncf .bf16 (layerOf m (Fin.ofNat 3 l) (own l) c) bitsLt_bf16_f32

/-- The blocks as they are stored and copied. -/
def blk (l : ℕ) (c : Dev nD) : Blk F := stored (own m l c)
/-- The partial sum of layer `l` that device `d` sends to the peer at distance `o` before it. -/
def part (l : Fin 3) (d : Dev nD) (o : Fin 7) : Blk F := partOf (w1 m l d) (w2 m l d) (blk m l.val) d o
/-- The sums of layer `l` before they are rounded. -/
def acc (l : Fin 3) (c : Dev nD) : Acc F := layerOf m l (own m l.val) c

theorem own_succ (l : Fin 3) (c : Dev nD) : own m (l.val + 1) c = truncf .bf16 (acc m l c) bitsLt_bf16_f32 := by
  have h : Fin.ofNat 3 l.val = l := Fin.ext (Nat.mod_eq_of_lt l.isLt)
  show truncf .bf16 (layerOf m (Fin.ofNat 3 l.val) (own m l.val) c) bitsLt_bf16_f32 = _
  rw [h]; rfl
theorem blk_zero (c : Dev nD) : blk m 0 c = k0_pay1 (xin m c) := by
  unfold blk own stored k0_pay1 k0_pay2; rfl
theorem blk_succ (l : Fin 3) (c : Dev nD) : blk m (l.val + 1) c = k0_pay60 (acc m l c) := by
  unfold blk; rw [own_succ]; rfl
theorem acc_eq (l : Fin 3) (c : Dev nD) :
    acc m l c = offs.foldl (fun a o => addf a (extf .f32 (part m l (up c o) o) bitsLt_bf16_f32))
      (k0_pay9 (own m l.val c) (w1 m l c) (w2 m l c)) := rfl

/-! ## Rows of the buffers -/

theorem row_inb (s : Dev nD) : ∀ a : Fin 2, (![64 * s.val, 0] : Fin 2 → ℕ) a + S64x512.size a ≤ S512x512.size a := by
  revert s; decide

/-- The 64 rows of device `s`. -/
abbrev rowR (s : Dev nD) : Rect S512x512 := Rect.unit (s := S512x512) ![64 * s.val, 0] S64x512.size (row_inb s)

theorem off1_row (c : Dev nD) : off1 c = rowR c := Rect.unit_congr (k0_off1_eq c) _ _
theorem off3_row (c : Dev nD) (o : Fin 7) : off3 c o = rowR (dn c o) :=
  Rect.unit_congr (by revert c o; decide +kernel) _ _
theorem off5_row (c : Dev nD) (o : Fin 7) : off5 c o = rowR (up c o) :=
  Rect.unit_congr (by revert c o; decide +kernel) _ _

/-- Activations, partial sums to send, partial sums received. -/
abbrev xM : Memref sig .tc .vmem S512x512 .bf16 := Memref.whole cc0_scratch0
@[inherit_doc xM] abbrev pM : Memref sig .tc .vmem S512x512 .bf16 := Memref.whole cc0_scratch1
@[inherit_doc xM] abbrev rM : Memref sig .tc .vmem S512x512 .bf16 := Memref.whole cc0_scratch2

/-- A buffer's rows of device `s`. -/
abbrev row {e : EltTy} (M : Memref sig .tc .vmem S512x512 e) (s : Dev nD) : Memref sig .tc .vmem S64x512 e :=
  M.slice (rowR s) (fun _ => rfl)

theorem xOwn_row (c : Dev nD) : xOwn c = row xM c := by
  unfold xOwn row rowR; congr 1; exact Rect.unit_congr (k0_off2_eq c) _ _
theorem rOwn_row (c : Dev nD) : rOwn c = row rM c := by
  unfold rOwn row rowR; congr 1; exact Rect.unit_congr (k0_off2_eq c) _ _
theorem pRow_row (c : Dev nD) (o : Fin 7) : pRow c o = row pM (dn c o) := by
  unfold pRow row rowR; congr 1; exact Rect.unit_congr (by revert c o; decide +kernel) _ _

/-! ## What is owned of the rows -/

/-- The algebra of the protocol: a duty is named by the device that performs it. -/
abbrev UB : Type := URounds (GSem nD τ sig) (Dev nD)
@[inherit_doc UB] abbrev UU : Type := UR sig nD τ × UB

local notation "𝕄" => MT nD τ sig Unit (Elt F) ℕ UU ℕ

/-- Where the pipeline's part of the algebra sits, and the protocol's. -/
abbrev EP : Emb (UR sig nD τ) (MT nD τ sig Unit (Elt F) ℕ UU ℕ) := embL
@[inherit_doc EP] abbrev ER : Emb UB (MT nD τ sig Unit (Elt F) ℕ UU ℕ) := embR

/-- Device `c`'s activations of device `s`, at a share; -/
def xP (c s : Dev nD) (q : PosShare TreeShare) (v : Blk F) : sProp 𝕄 := owns (c : Thread nD τ) (row xM s) q v
/-- its partial sums for device `s`; -/
def pP (c s : Dev nD) (v : Blk F) : sProp 𝕄 := owns (c : Thread nD τ) (row pM s) fullShare v
/-- the partial sums it received from device `s`. -/
def rP (c s : Dev nD) (v : Blk F) : sProp 𝕄 := owns (c : Thread nD τ) (row rM s) fullShare v

omit [FloatOps F] in
instance xP_storable (c s : Dev nD) (q) (v : Blk F) : BI.Storable (upEmb : UEmb _ 𝕄) (xP c s q v) := by unfold xP; infer_instance
omit [FloatOps F] in
instance pP_storable (c s : Dev nD) (v : Blk F) : BI.Storable (upEmb : UEmb _ 𝕄) (pP c s v) := by unfold pP; infer_instance
omit [FloatOps F] in
instance rP_storable (c s : Dev nD) (v : Blk F) : BI.Storable (upEmb : UEmb _ 𝕄) (rP c s v) := by unfold rP; infer_instance

/-- The same at some contents. -/
def xAny (c s : Dev nD) : sProp 𝕄 := iprop(∃ v, xP (F := F) c s fullShare v)
@[inherit_doc xAny] def pAny (c s : Dev nD) : sProp 𝕄 := iprop(∃ v, pP (F := F) c s v)
@[inherit_doc xAny] def rAny (c s : Dev nD) : sProp 𝕄 := iprop(∃ v, rP (F := F) c s v)

omit [FloatOps F] in
instance xAny_storable (c s : Dev nD) : BI.Storable (upEmb : UEmb _ 𝕄) (xAny (F := F) c s) := by unfold xAny; infer_instance
omit [FloatOps F] in
instance pAny_storable (c s : Dev nD) : BI.Storable (upEmb : UEmb _ 𝕄) (pAny (F := F) c s) := by unfold pAny; infer_instance
omit [FloatOps F] in
instance rAny_storable (c s : Dev nD) : BI.Storable (upEmb : UEmb _ 𝕄) (rAny (F := F) c s) := by unfold rAny; infer_instance

/-- The share of its own rows that a device lends to its copy to peer `o`, -/
def lf (o : Fin 7) : PosShare TreeShare := ShareLeaves.leaf 3 fullShare ⟨o.val, by omega⟩
/-- and the one it keeps. -/
def lfKeep : PosShare TreeShare := ShareLeaves.leaf 3 fullShare ⟨7, by decide⟩

/-! ## The cells -/

/-- The barrier cell, a send and a receive cell. -/
abbrev barC (c : Dev nD) : GSem nD τ sig := ((c : Thread nD τ), .reg barS)
@[inherit_doc barC] abbrev sendC (c : Dev nD) (p o : Fin 7) : GSem nD τ sig := ((c : Thread nD τ), .dma (sendS p o))
@[inherit_doc barC] abbrev recvC (c : Dev nD) (p o : Fin 7) : GSem nD τ sig := ((c : Thread nD τ), .dma (recvS p o))

/-- Which semaphore of the protocol a number stands for: a send (`false`) or receive (`true`) one, its phase and peer.
    The first column of each phase is not used. -/
def dec (i : DmaSem sig) : Option (Bool × Fin 7 × Fin 7) :=
  if h : 8 ≤ i.val ∧ (i.val - 8) % 8 ≠ 0 then
    some (decide (64 ≤ i.val), Fin.ofNat 7 ((i.val - 8) / 8), Fin.ofNat 7 ((i.val - 8) % 8 - 1)) else none

theorem dec_send : ∀ p o : Fin 7, dec (sendS p o) = some (false, p, o) := by decide +kernel
theorem dec_recv : ∀ p o : Fin 7, dec (recvS p o) = some (true, p, o) := by decide +kernel

/-- The credit of a copied block. -/
abbrev N : ℕ := (row xM (0 : Dev nD)).view.dmaCredit
theorem N_pos : 0 < N := View.dmaCredit_pos _ (by decide)

/-! ## The schedule -/

/-- What a copy's source is given back as: the lent share of the own rows, or the sent partial sum's rows. -/
def sendPay (c : Dev nD) (p o : Fin 7) : sProp 𝕄 :=
  if p.val % 2 = 0 then xP c c (lf o) (blk m (p.val / 2) c) else pAny c (dn c o)

/-- What a landed copy gives: in a gather the peer's block and, but for the last gather, the rows of partial sums at the
    peer that this device's next partial sum goes to; in a scatter the peer's partial sum and the rows of activations at
    the peer that this device's next block goes to. -/
def recvPay (c : Dev nD) (p o : Fin 7) : sProp 𝕄 :=
  if p.val % 2 = 0 then
    iprop(xP c (dn c o) fullShare (blk m (p.val / 2) (dn c o)) ∗ if p.val = 6 then iprop(emp) else rAny (dn c o) c)
  else iprop(rP c (up c o) (part m (Fin.ofNat 3 (p.val / 2)) (up c o) o) ∗ xAny (up c o) c)

/-- One round. The barrier cell of a device has one duty of one unit for each other device; every other cell of the
    protocol one duty of a block's credit. -/
def sched : Rounds.Schedule (GSem nD τ sig) (Dev nD) 𝕄 where
  duties g r := if r = 0 ∧ g.1.2 = .tc then
      (match g.2 with
        | .reg s => if s = barS then Finset.univ.erase g.1.1 else ∅
        | .dma i => if (dec i).isSome then {0} else ∅)
    else ∅
  unitless _ := False
  amount g _ _ := match g.2 with | .reg _ => 1 | .dma _ => N
  payload g _ d := match g.2 with
    | .reg _ => xAny d g.1.1
    | .dma i => match dec i with
      | none => iprop(emp)
      | some (false, p, o) => sendPay m g.1.1 p o
      | some (true, p, o) => recvPay m g.1.1 p o
  amount_pos g _ _ _ := by
    rcases g with ⟨_, _ | _⟩
    · exact Nat.one_pos
    · exact N_pos

instance sendPay_storable (c : Dev nD) (p o : Fin 7) : BI.Storable (upEmb : UEmb _ 𝕄) (sendPay m c p o) := by
  unfold sendPay; split <;> infer_instance
instance recvPay_storable (c : Dev nD) (p o : Fin 7) : BI.Storable (upEmb : UEmb _ 𝕄) (recvPay m c p o) := by
  unfold recvPay; (repeat' split) <;> infer_instance

instance sched_storable (g : GSem nD τ sig) (r : ℕ) (d : Dev nD) :
    BI.Storable (upEmb : UEmb _ 𝕄) ((sched (F := F) m).payload g r d) := by
  dsimp only [sched]; (repeat' split) <;> infer_instance

section Facts
variable (c : Dev nD) (p o : Fin 7)

theorem duties_bar : (sched (F := F) m).duties (barC c) 0 = Finset.univ.erase c := by
  dsimp only [sched]; rw [if_pos ⟨rfl, rfl⟩, if_pos rfl]
theorem duties_send : (sched (F := F) m).duties (sendC c p o) 0 = {0} := by
  dsimp only [sched]; rw [if_pos ⟨rfl, rfl⟩, dec_send]; rfl
theorem duties_recv : (sched (F := F) m).duties (recvC c p o) 0 = {0} := by
  dsimp only [sched]; rw [if_pos ⟨rfl, rfl⟩, dec_recv]; rfl
theorem duties_later (g : GSem nD τ sig) : ∀ r, 1 ≤ r → (sched (F := F) m).duties g r = ∅ :=
  fun r hr => by dsimp only [sched]; rw [if_neg fun h => by omega]
/-- A semaphore of the unused column has no duty. -/
theorem duties_unused (i : DmaSem sig) (h : dec i = none) : (sched (F := F) m).duties ((c : Thread nD τ), .dma i) 0 = ∅ := by
  dsimp only [sched]; rw [if_pos ⟨rfl, rfl⟩, h]; rfl

theorem amount_bar (d : Dev nD) : (sched (F := F) m).amount (barC c) 0 d = 1 := rfl
theorem amount_dma (i : DmaSem sig) (d : Dev nD) : (sched (F := F) m).amount ((c : Thread nD τ), .dma i) 0 d = N := rfl

theorem expect_bar : (sched (F := F) m).expect (barC c) 0 = 7 := by
  unfold Schedule.expect Schedule.amountOf
  rw [duties_bar, Finset.sum_congr rfl fun d _ => amount_bar m c d, Finset.sum_const, Finset.card_erase_of_mem (Finset.mem_univ _)]
  rfl
theorem expect_send : (sched (F := F) m).expect (sendC c p o) 0 = N := by
  unfold Schedule.expect Schedule.amountOf; rw [duties_send, Finset.sum_singleton, amount_dma]
theorem expect_recv : (sched (F := F) m).expect (recvC c p o) 0 = N := by
  unfold Schedule.expect Schedule.amountOf; rw [duties_recv, Finset.sum_singleton, amount_dma]

theorem payload_bar (d : Dev nD) : (sched (F := F) m).payload (barC c) 0 d = xAny d c := rfl
theorem payload_send (d : Dev nD) : (sched (F := F) m).payload (sendC c p o) 0 d = sendPay m c p o := by
  dsimp only [sched]; rw [dec_send]
theorem payload_recv (d : Dev nD) : (sched (F := F) m).payload (recvC c p o) 0 d = recvPay m c p o := by
  dsimp only [sched]; rw [dec_recv]

theorem rest_send : bigSep ((sched (F := F) m).duties (sendC c p o) 0 \ ∅) (fun d => (sched (F := F) m).payload (sendC c p o) 0 d) = sendPay m c p o := by
  rw [Finset.sdiff_empty, duties_send, bigSep_singleton, payload_send]
theorem rest_recv : bigSep ((sched (F := F) m).duties (recvC c p o) 0 \ ∅) (fun d => (sched (F := F) m).payload (recvC c p o) 0 d) = recvPay m c p o := by
  rw [Finset.sdiff_empty, duties_recv, bigSep_singleton, payload_recv]

theorem sendPay_gp (l : Fin 4) : sendPay m c (gp l) o = xP c c (lf o) (blk m l.val c) := by
  unfold sendPay gp; rw [if_pos (Nat.mul_mod_right 2 _), Nat.mul_div_cancel_left _ (by decide)]
theorem sendPay_sp (l : Fin 3) : sendPay m c (sp l) o = pAny c (dn c o) := by
  unfold sendPay sp; rw [if_neg (by dsimp only; omega)]
theorem recvPay_gp (l : Fin 3) : recvPay m c (gp l.castSucc) o
    = iprop(xP c (dn c o) fullShare (blk m l.val (dn c o)) ∗ rAny (dn c o) c) := by
  unfold recvPay gp
  rw [if_pos (Nat.mul_mod_right 2 _), Nat.mul_div_cancel_left _ (by decide), if_neg (by dsimp only [Fin.val_castSucc]; omega)]; rfl
theorem recvPay_six : recvPay m c 6 o = iprop(xP c (dn c o) fullShare (blk m 3 (dn c o)) ∗ emp) := by
  unfold recvPay; rw [if_pos (by decide), if_pos (by decide)]; rfl
theorem recvPay_sp (l : Fin 3) : recvPay m c (sp l) o
    = iprop(rP c (up c o) (part m l (up c o) o) ∗ xAny (up c o) c) := by
  unfold recvPay sp
  rw [if_neg (by dsimp only; omega), show (Fin.ofNat 3 ((2 * l.val + 1) / 2)) = l from Fin.ext (by simp [Fin.ofNat]; omega)]

end Facts

/-! ## What is owed, and the order of the waits -/

/-- Where the copy to peer `o` in phase `p` goes: to the device after in a gather, before in a scatter. -/
def tgt (c : Dev nD) (p o : Fin 7) : Dev nD := if p.val % 2 = 0 then up c o else dn c o

theorem tgt_gp (c : Dev nD) (l : Fin 4) (o : Fin 7) : tgt c (gp l) o = up c o := if_pos (Nat.mul_mod_right 2 _)
theorem tgt_sp (c : Dev nD) (l : Fin 3) (o : Fin 7) : tgt c (sp l) o = dn c o := if_neg (by unfold sp; dsimp only; omega)

/-- The credit of copies still to be made, in their order. -/
def owe (c : Dev nD) : List (Fin 7 × Fin 7) → CellTallies nD τ sig Unit
  | [] => 0
  | x :: l => owe c l + tallyAt (recvC (tgt c x.1 x.2) x.1 x.2) () N

/-- And of the signals before them. -/
def oweB (c : Dev nD) (B : CellTallies nD τ sig Unit) : List (Fin 7) → CellTallies nD τ sig Unit
  | [] => B
  | o :: l => oweB c B l + tallyAt (barC (up c o)) () 1

/-- The copies of a phase. -/
def ph (p : Fin 7) : List (Fin 7 × Fin 7) := offs.map fun o => (p, o)
/-- The copies of every phase. -/
def allPh : List (Fin 7 × Fin 7) := ph 0 ++ (ph 1 ++ (ph 2 ++ (ph 3 ++ (ph 4 ++ (ph 5 ++ (ph 6 ++ []))))))
/-- What device `c` owes at launch. -/
def O₀ (c : Dev nD) : CellTallies nD τ sig Unit := oweB c (owe c allPh) offs

/-- The waits' indices. -/
def L (g : GSem nD τ sig) : Finset Unit := if g.1.2 = .tc then {()} else ∅
/-- The barrier first, then the receives phase by phase; sends and the pipeline's own before all of them. -/
def lv (g : GSem nD τ sig) (_ : Unit) : ℕ := match g.2 with
  | .reg _ => 1
  | .dma i => match dec i with
    | some (true, p, _) => p.val + 2
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barC c) u = 1 := rfl
theorem lv_recv (c : Dev nD) (p o : Fin 7) (u : Unit) : lv (recvC c p o) u = p.val + 2 := by
  unfold lv; dsimp only; rw [dec_recv]
theorem lv_send (c : Dev nD) (p o : Fin 7) (u : Unit) : lv (sendC c p o) u = 0 := by
  unfold lv; dsimp only; rw [dec_send]

/-- Everything in a tally is for cells above level `n`. -/
def Above (n : ℕ) (O : CellTallies nD τ sig Unit) : Prop := ∀ g u, 0 < O g u → () ∈ L g ∧ n < lv g u

theorem Above.zero (n : ℕ) : Above n 0 := fun g u h => absurd h (Nat.lt_irrefl 0)
theorem Above.add {n : ℕ} {O : CellTallies nD τ sig Unit} (h : Above n O) (d : Dev nD) (sm : SemLoc sig) (k : ℕ)
    (hl : n < lv ((d : Thread nD τ), sm) ()) : Above n (O + tallyAt ((d : Thread nD τ), sm) () k) := fun g u hg => by
  rw [Pi.add_apply, Finsupp.add_apply, tallyAt_apply] at hg
  by_cases e : g = ((d : Thread nD τ), sm) ∧ u = ()
  · obtain ⟨rfl, rfl⟩ := e; exact ⟨by rw [L_tc]; exact Finset.mem_singleton_self _, hl⟩
  · rw [if_neg e, Nat.add_zero] at hg; exact h g u hg
theorem Above.mono {n k : ℕ} {O : CellTallies nD τ sig Unit} (h : Above n O) (hk : k ≤ n) : Above k O :=
  fun g u hg => ⟨(h g u hg).1, Nat.lt_of_le_of_lt hk (h g u hg).2⟩

theorem above_owe (n : ℕ) (c : Dev nD) : ∀ l : List (Fin 7 × Fin 7), (∀ x ∈ l, n < x.1.val + 2) → Above n (owe c l)
  | [], _ => Above.zero n
  | x :: l, h => (above_owe n c l fun y hy => h y (List.mem_cons_of_mem _ hy)).add _ _ _
      (by rw [lv_recv]; exact h x List.mem_cons_self)
theorem above_oweB (c : Dev nD) (B : CellTallies nD τ sig Unit) (hB : Above 0 B) : ∀ l : List (Fin 7), Above 0 (oweB c B l)
  | [] => hB
  | o :: l => (above_oweB c B hB l).add _ _ _ (by rw [lv_bar]; exact Nat.one_pos)
theorem above_O₀ (c : Dev nD) : Above 0 (O₀ c) := above_oweB c _ (above_owe 0 c _ fun _ _ => Nat.succ_pos _) _

omit [FloatOps F] in
/-- A cell may be waited for when everything owed is for cells above it. -/
theorem mayWait (c : Dev nD) (sm : SemLoc sig) (O : CellTallies nD τ sig Unit) (n : ℕ) (hn : lv ((c : Thread nD τ), sm) () ≤ n)
    (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hn) (fun g u hg => (hO g u hg).2)

/-! ## The cells a device uses, as the launch numbers them -/

/-- The barrier, then the two arrays of semaphores. -/
abbrev csem : Option (Fin 112) → SemLoc sig
  | none => .reg barS
  | some i => .dma (⟨8 + i.val, by omega⟩ : Fin 120)
/-- A device's cell. -/
abbrev kcell (ck : Dev nD × Option (Fin 112)) : GSem nD τ sig := ((ck.1 : Thread nD τ), csem ck.2)
/-- The number of a send semaphore, of a receive semaphore. -/
def sIx (p o : Fin 7) : Fin 112 := ⟨8 * p.val + (1 + o.val), by omega⟩
@[inherit_doc sIx] def rIx (p o : Fin 7) : Fin 112 := ⟨56 + (8 * p.val + (1 + o.val)), by omega⟩

theorem kcell_s (c : Dev nD) (p o : Fin 7) : kcell (c, some (sIx p o)) = sendC c p o := rfl
theorem kcell_r (c : Dev nD) (p o : Fin 7) : kcell (c, some (rIx p o)) = recvC c p o := by
  have h : (⟨8 + (rIx p o).val, by omega⟩ : Fin 120) = recvS p o := Fin.ext (by unfold rIx recvS; dsimp only; omega)
  show ((c : Thread nD τ), SemLoc.dma _) = _
  rw [h]

variable (K : Dev nD × Option (Fin 112) → ℕ)

/-- Every cell's invariant, under the names `K`, and that its round is open. -/
def recs : sProp 𝕄 :=
  bigSep (Finset.univ : Finset (Dev nD × Option (Fin 112))) fun ck => iprop(cellInv ER (sched m) (K ck) (kcell ck) ∗ reached ER (kcell ck) 0)
/-- What every step reads: the invariants and the levels. -/
def env : sProp 𝕄 := iprop(recs m K ∗ levAts L lv)

instance recs_persistent : BI.Persistent (recs m K) := by unfold recs; infer_instance
instance env_persistent : BI.Persistent (env m K) := by unfold env; infer_instance

theorem env_levs : env m K ⊢ levAts L lv := by unfold env; iintro ⟨-, H⟩; iexact H
theorem recs_at (ck : Dev nD × Option (Fin 112)) :
    recs m K ⊢ iprop(cellInv ER (sched m) (K ck) (kcell ck) ∗ reached ER (kcell ck) 0) := by
  unfold recs; exact bigSep_elim (Finset.mem_univ ck)
theorem env_cell (ck : Dev nD × Option (Fin 112)) :
    env m K ⊢ iprop(cellInv ER (sched m) (K ck) (kcell ck) ∗ reached ER (kcell ck) 0) := by
  unfold env; iintro ⟨H, -⟩; iapply (recs_at m K ck); iexact H
theorem env_send (c : Dev nD) (p o : Fin 7) :
    env m K ⊢ iprop(cellInv ER (sched m) (K (c, some (sIx p o))) (sendC c p o) ∗ reached ER (sendC c p o) 0) := env_cell m K _
theorem env_recv (c : Dev nD) (p o : Fin 7) :
    env m K ⊢ iprop(cellInv ER (sched m) (K (c, some (rIx p o))) (recvC c p o) ∗ reached ER (recvC c p o) 0) := by
  have h := env_cell m K (c, some (rIx p o)); rw [kcell_r] at h; exact h
theorem env_bar (c : Dev nD) :
    env m K ⊢ iprop(cellInv ER (sched m) (K (c, none)) (barC c) ∗ reached ER (barC c) 0) := env_cell m K _

end Cert.KernelIdeal.Proof

end

end
-- ==== Proof.Products.lean ====
module

public import proofs.«01_k».proof.Proof.Sched
public import Idealize.ShloMosaic.Lib.MatmulPlain
public import Idealize.ShloMosaic.Lib.StackMember
public import Idealize.ShloMosaic.Lib.Pipeline.Value

/-!
# The products at ideal values

What a device adds to one element of a layer, read off the kernel's matrix products: the element's row through the
device's columns of the first weights, clamped at zero, and through its rows of the second. The eight devices'
contributions add up to the same sum over all the hidden columns.
-/

@[expose] public section

set_option backward.proofsInPublic true

noncomputable section

namespace Cert.KernelIdeal.Proof

open Idealize.ShloMosaic Idealize.ShloMosaic.TcCoe
open Idealize.ShloMosaic.ValueIdx
open Cert.KernelIdeal.Gen

/-! ## One row through two matrices -/

/-- A row `x` through the columns `A`, clamped at zero, and through one column `B`. -/
def mlp {K : ℕ} (x : Fin 512 → EReal) (A : Fin 512 → Fin K → EReal) (B : Fin K → EReal) : EReal :=
  ∑ k : Fin K, max (∑ j : Fin 512, x j * A j k) 0 * B k

/-- The clamped hidden columns cut into eight blocks: the blocks' sums add up. -/
theorem mlp_blocks (x : Fin 512 → EReal) (A : Fin 512 → Fin 8192 → EReal) (B : Fin 8192 → EReal) :
    mlp x A B = ∑ d : Fin 8, mlp x (fun j k => A j (finProdFinEquiv (d, k) : Fin (8 * 1024))) (fun k : Fin 1024 => B (finProdFinEquiv (d, k) : Fin (8 * 1024))) := by
  unfold mlp
  rw [← Fintype.sum_prod_type' (f := fun (d : Fin 8) (k : Fin 1024) =>
    max (∑ j : Fin 512, x j * A j (finProdFinEquiv (d, k) : Fin (8 * 1024))) 0 * B (finProdFinEquiv (d, k) : Fin (8 * 1024)))]
  exact (Equiv.sum_comp (finProdFinEquiv (m := 8) (n := 1024)) (fun k : Fin 8192 => max (∑ j : Fin 512, x j * A j k) 0 * B k)).symm

/-- The kernel's two products with the clamp between them, for any number of rows. -/
def prods {M : ℕ} (x : FVec Ideal ⟨2, ![M, 512]⟩ .bf16) (W₁ : FVec Ideal S512x1024 .bf16) (W₂ : FVec Ideal S1024x512 .bf16) :
    FVec Ideal ⟨2, ![M, 512]⟩ .f32 :=
  matmul (DotDims.plain M 1024 512) none
    (truncf .bf16 (maximumf (matmul (DotDims.plain M 512 1024) none x W₁ (constant ⟨2, ![M, 1024]⟩ .f32 0x00000000#32))
      (broadcast ⟨2, ![M, 1024]⟩ (Scalar.ofBits .f32 0x00000000#32))) bitsLt_bf16_f32)
    W₂ (constant ⟨2, ![M, 512]⟩ .f32 0x00000000#32)

theorem prods_apply {M : ℕ} (x : FVec Ideal ⟨2, ![M, 512]⟩ .bf16) (W₁ : FVec Ideal S512x1024 .bf16) (W₂ : FVec Ideal S1024x512 .bf16)
    (r : Fin M) (q : Fin 512) :
    prods x W₁ W₂ (ix2 r q) = mlp (fun j => x (ix2 r j)) (fun j k => W₁ (ix2 j k)) (fun k => W₂ (ix2 k q)) := by
  unfold prods mlp
  refine (Ideal.matmul_plain_apply none _ _ _ r q).trans ?_
  refine (congrArg₂ (· + ·) Ideal.ofBits_zero_f32 rfl).trans ((zero_add _).trans (Finset.sum_congr rfl fun k _ => ?_))
  refine congrArg (· * _) (congrArg₂ max ?_ Ideal.ofBits_zero_f32)
  refine (Ideal.matmul_plain_apply none _ _ _ r k).trans ?_
  exact (congrArg₂ (· + ·) Ideal.ofBits_zero_f32 rfl).trans (zero_add _)

/-! ## The kernel's blocks -/

variable (W₁ : FVec Ideal S512x1024 .bf16) (W₂ : FVec Ideal S1024x512 .bf16)

theorem pay9_eq (x : Blk Ideal) : k0_pay9 x W₁ W₂ = prods x W₁ W₂ := rfl
theorem pay20_eq (x : Blk Ideal) : k0_pay20 W₁ W₂ x = stored (prods x W₁ W₂) := rfl
/-- Two blocks of rows, one above the other. -/
def two (u v : Blk Ideal) : FVec Ideal S128x512 .bf16 :=
  concatenate S128x512 0 [⟨S64x512, u⟩, ⟨S64x512, v⟩] concatenates_S64x512_S64x512_S128x512_d0
theorem pay14_eq (u v : Blk Ideal) : k0_pay14 W₁ W₂ u v = prods (two u v) W₁ W₂ := rfl
theorem stored_eq (v : Blk Ideal) : stored v = v := shapeCast_self v _

theorem two_left (u v : Blk Ideal) (r : Fin 64) (j : Fin 512) : two u v (ix2 (⟨r.val, by omega⟩ : Fin 128) j) = u (ix2 r j) :=
  concatenate_pair_apply_left (t := S128x512) (s₁ := S64x512) (s₂ := S64x512) 0 u v _ (ix2 (⟨r.val, by omega⟩ : Fin 128) j) rfl (ix2 r j) fun b => by fin_cases b <;> rfl
theorem two_right (u v : Blk Ideal) (r : Fin 64) (j : Fin 512) : two u v (ix2 (⟨64 + r.val, by omega⟩ : Fin 128) j) = v (ix2 r j) :=
  concatenate_pair_apply_right (t := S128x512) (s₁ := S64x512) (s₂ := S64x512) 0 u v _ (ix2 (⟨64 + r.val, by omega⟩ : Fin 128) j) rfl rfl (ix2 r j)
    (fun b hb => by fin_cases b; · exact absurd rfl hb
                    · rfl)
    (Nat.add_comm r.val 64)

/-- The first block's part of a product of two blocks; -/
theorem pay15_apply (u v : Blk Ideal) (r : Fin 64) (q : Fin 512) :
    k0_pay15 W₁ W₂ u v (ix2 r q) = mlp (fun j => u (ix2 r j)) (fun j k => W₁ (ix2 j k)) (fun k => W₂ (ix2 k q)) := by
  have h : k0_pay15 W₁ W₂ u v = stored (extractStridedSlice S64x512 ![0, 0] (k0_pay14 W₁ W₂ u v) slices_S128x512_o0_0_S64x512) := rfl
  rw [h, stored_eq, pay14_eq]
  refine (extractStridedSlice_apply ![0, 0] _ _ (ix2 r q) (ix2 (⟨r.val, by omega⟩ : Fin 128) q) fun a => by fin_cases a <;> exact (Nat.zero_add _).symm).trans ?_
  rw [prods_apply]; simp only [two_left]
/-- and the second's. -/
theorem pay16_apply (u v : Blk Ideal) (r : Fin 64) (q : Fin 512) :
    k0_pay16 W₁ W₂ u v (ix2 r q) = mlp (fun j => v (ix2 r j)) (fun j k => W₁ (ix2 j k)) (fun k => W₂ (ix2 k q)) := by
  have h : k0_pay16 W₁ W₂ u v = stored (extractStridedSlice S64x512 ![64, 0] (k0_pay14 W₁ W₂ u v) slices_S128x512_o64_0_S64x512) := rfl
  rw [h, stored_eq, pay14_eq]
  refine (extractStridedSlice_apply ![64, 0] _ _ (ix2 r q) (ix2 (⟨64 + r.val, by omega⟩ : Fin 128) q) fun a => by
    fin_cases a
    · rfl
    · exact (Nat.zero_add _).symm).trans ?_
  rw [prods_apply]; simp only [two_right]

/-- Each partial sum is of the block of the peer it is for. -/
theorem partOf_apply (b : Dev nD → Blk Ideal) (d : Dev nD) (o : Fin 7) (r : Fin 64) (q : Fin 512) :
    partOf W₁ W₂ b d o (ix2 r q) = mlp (fun j => b (dn d o) (ix2 r j)) (fun j k => W₁ (ix2 j k)) (fun k => W₂ (ix2 k q)) := by
  fin_cases o
  · exact pay15_apply W₁ W₂ _ _ r q
  · exact pay16_apply W₁ W₂ _ _ r q
  · exact pay15_apply W₁ W₂ _ _ r q
  · exact pay16_apply W₁ W₂ _ _ r q
  · exact pay15_apply W₁ W₂ _ _ r q
  · exact pay16_apply W₁ W₂ _ _ r q
  · show k0_pay20 W₁ W₂ (b (dn d 6)) (ix2 r q) = _
    rw [pay20_eq, stored_eq]; exact prods_apply _ W₁ W₂ r q

/-! ## A layer -/

/-- A sum over the devices, from device `c` on. -/
theorem sum_up (c : Dev nD) (f : Dev nD → EReal) : ∑ d, f d = f c + (offs.map fun o => f (up c o)).sum := by
  have hu : (Finset.univ : Finset (Dev nD)) = (c :: offs.map (up c)).toFinset := by revert c; decide
  rw [hu, List.sum_toFinset f (by revert c; decide)]
  simp only [List.map_cons, List.sum_cons, List.map_map]; rfl

/-- Adding blocks up one after another adds each element up. -/
theorem fold_apply (g : Fin 7 → Acc Ideal) (i : S64x512.Idx) (os : List (Fin 7)) (a : Acc Ideal) :
    (os.foldl (fun a o => addf a (g o)) a) i = a i + (os.map fun o => g o i).sum := by
  induction os generalizing a with
  | nil => exact (add_zero _).symm
  | cons o os ih => rw [List.foldl_cons, ih, List.map_cons, List.sum_cons, ← add_assoc]; rfl

variable (m : (ℓ : Loc nD τ sig) → Buf (Elt Ideal) ℓ)

/-- An element of a layer is the sum of the devices' contributions. -/
theorem layerOf_apply (l : Fin 3) (b : Dev nD → Blk Ideal) (c : Dev nD) (r : Fin 64) (q : Fin 512) :
    layerOf m l b c (ix2 r q)
      = ∑ d : Dev nD, mlp (fun j => b c (ix2 r j)) (fun j k => w1 m l d (ix2 j k)) (fun k => w2 m l d (ix2 k q)) := by
  have hp : ∀ o : Fin 7, partOf (w1 m l (up c o)) (w2 m l (up c o)) (fun s => stored (b s)) (up c o) o (ix2 r q)
      = mlp (fun j => b c (ix2 r j)) (fun j k => w1 m l (up c o) (ix2 j k)) (fun k => w2 m l (up c o) (ix2 k q)) := fun o => by
    rw [partOf_apply, dn_up, stored_eq]
  have h9 := prods_apply (b c) (w1 m l c) (w2 m l c) r q
  rw [← pay9_eq] at h9
  rw [sum_up c fun d : Dev nD => mlp (fun j => b c (ix2 r j)) (fun j k => w1 m l d (ix2 j k)) (fun k => w2 m l d (ix2 k q)), ← h9]
  simp only [← hp]
  exact fold_apply (fun o => extf .f32 (partOf (w1 m l (up c o)) (w2 m l (up c o)) (fun s => stored (b s)) (up c o) o) bitsLt_bf16_f32) (ix2 r q) offs _

end Cert.KernelIdeal.Proof

end

end
-- ==== Proof.Steps.lean ====
module

public import proofs.«01_k».proof.Proof.Sched

/-!
# One operation at a time

Each operation of the program as a rule on what a device owns: signals, copies, waits, and loads and stores of rows.
-/

@[expose] public section

set_option backward.proofsInPublic true

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (K : Dev nD × Option (Fin 112) → ℕ)

/-- No call is recursive. -/
abbrev 𝒱₀ : Variants := Variants.none

/-- Running a program on device `c` to an end satisfying `Q`. -/
abbrev run (c : Dev nD) (k : PR F) (Q : PUnit → sProp 𝕄) : sProp 𝕄 :=
  wp frame (wpE (defs₀ (F := F)) 𝒱₀ (c : Thread nD τ) none) Set.univ k Q

/-- What device `c` owes, whatever it has waited for. -/
def ow (c : Dev nD) (O : CellTallies nD τ sig Unit) : sProp 𝕄 := iprop(∃ W, owes (c : Thread nD τ) O W)

/-! ## Copies and waits -/

/-- A copy to device `d`: what is sent becomes the sender's payload, what lands with `G` the receiver's. -/
theorem copy_spec (c d n : Dev nD) (hn : n = d) (p o : Fin 7) (ht : tgt c p o = d)
    (src dst : Memref sig .tc .vmem S64x512 .bf16) {hsc : dst.view.ref.isScScratch = false}
    {hsrc : src.view.WordExact} {hdst : dst.view.WordExact}
    {hsem : DmaTarget.Typed .vmem (.dma (recvS p o)) (.remote (Dev.tc n : Thread nD τ) dst (.dma (sendS p o)) hsc)}
    {q : PosShare TreeShare} {v w : Blk F} {G : sProp 𝕄} (R : List (Fin 7 × Fin 7))
    (hN : dst.view.amount (.dma (recvS p o)) = N)
    (h₁ : owns (c : Thread nD τ) src q v ⊢ sendPay m c p o)
    (h₂ : iprop(owns (d : Thread nD τ) dst fullShare v ∗ G) ⊢ recvPay m d p o)
    (k : PR F) (Q : PUnit → sProp 𝕄) :
    iprop(env m K ∗ owns (c : Thread nD τ) src q v ∗ (owns (d : Thread nD τ) dst fullShare w ∗ G) ∗ ow c (owe c ((p, o) :: R))
        ∗ dutyTok ER (sendC c p o) 0 (0 : Dev nD) ∗ dutyTok ER (recvC d p o) 0 (0 : Dev nD))
      ⊢ iprop(((cred (tallyAt (sendC c p o) () N) ∗ ow c (owe c R)) -∗ run c k Q)
        -∗ run c (.op (.enqueueDma src (.remote (Dev.tc n : Thread nD τ) dst (.dma (sendS p o)) hsc) (.dma (recvS p o)) hsrc hdst hsem) fun _ => k) Q) := by
  subst hn
  iintro ⟨#He, Hs, ⟨Hd, HG⟩, Ho, Ht₁, Ht₂⟩ Hk
  unfold ow
  icases Ho with ⟨%W, Ho⟩
  ihave Hc₁ := (env_send m K c p o) $$ He
  icases Hc₁ with ⟨#HI₁, #Hr₁⟩
  ihave Hc₂ := (env_recv m K n p o) $$ He
  icases Hc₂ with ⟨#HI₂, #Hr₂⟩
  ihave Hs' := (show (owns (c : Thread nD τ) src q v : sProp 𝕄) ⊢ iprop(∃ f, ⌜src.view.read (Elt F) f = v⌝ ∗ (src.view.loc (c : Thread nD τ) ↦[src.view.set]{q} f)) from .rfl) $$ Hs
  icases Hs' with ⟨%fs, %hfs, Hs⟩
  ihave Hd' := (show (owns (n : Thread nD τ) dst fullShare w : sProp 𝕄) ⊢ iprop(∃ f, ⌜dst.view.read (Elt F) f = w⌝ ∗ (dst.view.loc (n : Thread nD τ) ↦[dst.view.set]{fullShare} f)) from .rfl) $$ Hd
  icases Hd' with ⟨%fd, %hfd, Hd⟩
  have hl : (dst.view.loc (n : Thread nD τ) ↦[dst.view.set]{fullShare} (dst.view.write (Elt F) fd (src.view.read (Elt F) fs) Finset.univ) : sProp 𝕄)
      ⊢ owns (n : Thread nD τ) dst fullShare v := by
    have h := owns_intro (Ix := Unit) (Name := ℕ) (U := UU) (Lvl := ℕ) (n : Thread nD τ) dst fullShare
      (dst.view.write (Elt F) fd (src.view.read (Elt F) fs) Finset.univ)
    rw [View.read_write_univ, hfs] at h; rw [hfs]; exact h
  iapply (Rounds.wp_send_pointsTo_with 𝒱₀ ER (sched m) (c : Thread nD τ) none (κ₁ := K (c, some (sIx p o))) (κ₂ := K (n, some (rIx p o)))
    (r₁ := 0) (r₂ := 0) (d₁ := 0) (d₂ := 0) (fs := fs) (fd := fd) (F := G)
    (by rw [duties_send]; exact Finset.mem_singleton_self _) (by rw [duties_recv]; exact Finset.mem_singleton_self _)
    () () N hN (amount_dma m c _ _) (amount_dma m n _ _) (owe c R) (by show owe c R + tallyAt (recvC (tgt c p o) p o) () N = _; rw [ht]) (W := W)
    (by rw [payload_send]; refine BI.Entails.trans ?_ h₁; rw [← hfs]; exact owns_intro _ _ _ _)
    (by rw [payload_recv]; exact (sep_mono_left hl).trans h₂)) $$ [Hs Hd HG Ho Ht₁ Ht₂]
  · isplitr; · iexact HI₁
    isplitr; · iexact HI₂
    isplitl [Hs]; · iexact Hs
    isplitl [Hd HG]
    · isplitl [Hd]; · iexact Hd
      iexact HG
    isplitl [Ho]; · iexact Ho
    isplitl [Ht₁]; · iexact Ht₁
    isplitr; · iexact Hr₁
    isplitl [Ht₂]; · iexact Ht₂
    iexact Hr₂
  iintro ⟨Hc, Ho⟩
  iapply Hk
  isplitl [Hc]; · iexact Hc
  iexists W; iexact Ho

/-- A wait on a semaphore of the protocol, the only one of its round: its payload, and the cell closed. -/
theorem wait_spec (c : Dev nD) (ix : Option (Fin 112)) {w : TpuEff nD τ sig (Elt F) Λ₀ .tc PUnit} {sm : SemLoc sig} {k' : ℕ} (hsm : csem ix = sm)
    (hw : ∀ Kt : PUnit → sProp 𝕄, wpE (defs₀ (F := F)) 𝒱₀ (c : Thread nD τ) none Set.univ w Kt = waitSpec (c : Thread nD τ) Set.univ sm k' Kt)
    (hk : k' = (sched m).expect ((c : Thread nD τ), sm) 0) {P : sProp 𝕄}
    (hP : bigSep ((sched (F := F) m).duties ((c : Thread nD τ), sm) 0 \ ∅) (fun d => (sched (F := F) m).payload ((c : Thread nD τ), sm) 0 d) = P)
    (O : CellTallies nD τ sig Unit) (n : ℕ) (hn : lv ((c : Thread nD τ), sm) () ≤ n) (hO : Above n O)
    (k : PR F) (Q : PUnit → sProp 𝕄) :
    iprop(env m K ∗ cred (tallyAt ((c : Thread nD τ), sm) () k') ∗ ow c O ∗ atPos ER ((c : Thread nD τ), sm) 0 ∅ 0)
      ⊢ iprop(((ow c O ∗ P ∗ semVal ((c : Thread nD τ), sm) 0) -∗ run c k Q) -∗ run c (.op w fun _ => k) Q) := by
  subst hsm
  iintro ⟨#He, Hc, Ho, Hat⟩ Hk
  unfold ow
  icases Ho with ⟨%W, Ho⟩
  ihave Hc₁ := (env_cell m K (c, ix)) $$ He
  icases Hc₁ with ⟨#HI, -⟩
  iapply (Rounds.wp_wait_rest_token 𝒱₀ ER (sched m) (c : Thread nD τ) none (κ := K (c, ix)) hw (Set.mem_univ _) () (O := O) (W := W)
      (R := 0) (m := 0) (T := ∅) (by rw [Nat.zero_add, hk])) $$ [Hc Ho Hat]
  · isplitr; · iexact HI
    isplitl [Hc]; · iexact Hc
    isplitl [Ho]; · iexact Ho
    isplitr
    · iapply (mayWait c (csem ix) O n hn hO); iapply (env_levs m K); iexact He
    iexact Hat
  iintro ⟨Ho, Hat, -, Hpay⟩
  imod (Rounds.cell_close ER (sched m) (Set.mem_univ (K (c, ix))) (fun h => h) (R := 0 + 1) (duties_later m _)) $$ [Hat] with Hz
  · isplitr; · iexact HI
    iexact Hat
  iapply Hk
  isplitl [Ho]; · iexists _; iexact Ho
  isplitl [Hpay]
  · iapply (Entails.of_eq hP); iexact Hpay
  iexact Hz

/-- A wait for a copy from a peer. -/
theorem waitRecv_spec (c : Dev nD) (p o : Fin 7) (src dst : Memref sig .tc .vmem S64x512 .bf16)
    {hsrc : src.view.WordExact} {hdst : dst.view.WordExact} (hN : dst.view.dmaCredit = N)
    (O : CellTallies nD τ sig Unit) (hO : Above (p.val + 2) O) (k : PR F) (Q : PUnit → sProp 𝕄) :
    iprop(env m K ∗ cred (tallyAt (recvC c p o) () N) ∗ ow c O ∗ atPos ER (recvC c p o) 0 ∅ 0)
      ⊢ iprop(((ow c O ∗ recvPay m c p o ∗ semVal (recvC c p o) 0) -∗ run c k Q)
        -∗ run c (.op (.waitDma2 (recvS p o) src dst hsrc hdst) fun _ => k) Q) := by
  rw [← hN]
  exact wait_spec m K c (some (rIx p o)) (congrArg Prod.snd (kcell_r c p o)) (wpE_waitDma2_eq 𝒱₀ (c : Thread nD τ) none Set.univ)
    (by rw [hN]; exact (expect_recv m c p o).symm) (rest_recv m c p o) O (p.val + 2) (by rw [lv_recv]) hO k Q

/-- A wait for a copy to a peer to have left. -/
theorem waitSend_spec (c : Dev nD) (p o : Fin 7) (src dst : Memref sig .tc .vmem S64x512 .bf16)
    {hsrc : src.view.WordExact} {hdst : dst.view.WordExact} (hN : dst.view.dmaCredit = N)
    (O : CellTallies nD τ sig Unit) (hO : Above 0 O) (k : PR F) (Q : PUnit → sProp 𝕄) :
    iprop(env m K ∗ cred (tallyAt (sendC c p o) () N) ∗ ow c O ∗ atPos ER (sendC c p o) 0 ∅ 0)
      ⊢ iprop(((ow c O ∗ sendPay m c p o ∗ semVal (sendC c p o) 0) -∗ run c k Q)
        -∗ run c (.op (.waitDma2 (sendS p o) src dst hsrc hdst) fun _ => k) Q) := by
  rw [← hN]
  exact wait_spec m K c (some (sIx p o)) rfl (wpE_waitDma2_eq 𝒱₀ (c : Thread nD τ) none Set.univ)
    (by rw [hN]; exact (expect_send m c p o).symm) (rest_send m c p o) O 0 (by show lv (sendC c p o) () ≤ 0; rw [lv_send]) hO k Q

/-! ## Loads and stores of rows -/

/-- A load of a device's rows. -/
theorem load_row (c s : Dev nD) {e : EltTy} (M : Memref sig .tc .vmem S512x512 e) (r : Rect S512x512) (hr : r = rowR s)
    {hl : M.view.LoadsAt r.toLoadRect} {q : PosShare TreeShare} (v : S64x512.Idx → Elt F e)
    (k : (r.shape.Idx → Elt F e) → PR F) (k' : PR F) (hk : ∀ x : r.shape.Idx → Elt F e, HEq x v → k x = k') (Q : PUnit → sProp 𝕄) :
    (owns (c : Thread nD τ) (row M s) q v : sProp 𝕄)
      ⊢ iprop((owns (c : Thread nD τ) (row M s) q v -∗ run c k' Q) -∗ run c (.op (.load M r.toLoadRect hl) k) Q) := by
  subst hr
  rw [← hk v HEq.rfl]
  iintro H Hk
  ihave H' := (show (owns (c : Thread nD τ) (row M s) q v : sProp 𝕄) ⊢ iprop(∃ f, ⌜(row M s).view.read (Elt F) f = v⌝ ∗ ((row M s).view.loc (c : Thread nD τ) ↦[(row M s).view.set]{q} f)) from .rfl) $$ H
  icases H' with ⟨%f, %hf, H⟩
  subst hf
  iapply (wp_load_rect 𝒱₀ (c : Thread nD τ) none Set.univ (m := M) (r := rowR s) (S := (row M s).view.set) (f := f) (Finset.Subset.refl _)) $$ H
  iintro H
  iapply Hk
  iapply (owns_intro (c : Thread nD τ) (row M s) q f); iexact H

/-- A store of a device's rows. -/
theorem store_row (c s : Dev nD) {e : EltTy} (M : Memref sig .tc .vmem S512x512 e) (r : Rect S512x512) (hr : r = rowR s)
    {w : r.shape.Idx → Elt F e} {hx : (M.access r).Stores Finset.univ} {hm : (Finset.univ : Finset r.shape.Idx) = Finset.univ ∨ ∀ a, r.stride a = 1}
    (v v' : S64x512.Idx → Elt F e) (hv : HEq w v') (k : PR F) (Q : PUnit → sProp 𝕄) :
    (owns (c : Thread nD τ) (row M s) fullShare v : sProp 𝕄)
      ⊢ iprop((owns (c : Thread nD τ) (row M s) fullShare v' -∗ run c k Q)
        -∗ run c (.op (.store M r w Finset.univ hx hm) fun _ => k) Q) := by
  subst hr
  obtain rfl : w = v' := eq_of_heq hv
  have hl : ∀ f, ((row M s).view.loc (c : Thread nD τ) ↦[(row M s).view.set]{fullShare} ((M.access (rowR s)).write (Elt F) f w Finset.univ) : sProp 𝕄)
      ⊢ owns (c : Thread nD τ) (row M s) fullShare w := fun f => by
    have h := owns_intro (Ix := Unit) (Name := ℕ) (U := UU) (Lvl := ℕ) (Val := Elt F) (c : Thread nD τ) (row M s) fullShare
      ((M.access (rowR s)).write (Elt F) f w Finset.univ)
    have e : (row M s).view.read (Elt F) ((M.access (rowR s)).write (Elt F) f w Finset.univ) = w :=
      View.read_write_univ (v := M.access (rowR s)) f w
    rw [e] at h; exact h
  iintro H Hk
  ihave H' := (show (owns (c : Thread nD τ) (row M s) fullShare v : sProp 𝕄) ⊢ iprop(∃ f, ⌜(row M s).view.read (Elt F) f = v⌝ ∗ ((row M s).view.loc (c : Thread nD τ) ↦[(row M s).view.set]{fullShare} f)) from .rfl) $$ H
  icases H' with ⟨%f, %hf, H⟩
  iapply (wp_store 𝒱₀ (c : Thread nD τ) none Set.univ (m := M) (r := rowR s) (w := w) (Mk := Finset.univ) (S := (row M s).view.set) (f := f) (by rw [View.setOn_univ])) $$ H
  iintro H
  iapply Hk
  iapply (hl f); iexact H

end Cert.KernelIdeal.Proof

end

end
-- ==== Proof.Loops.lean ====
module

public import proofs.«01_k».proof.Proof.Steps

/-!
# The program's pieces

The loops over the peers, the three pairs and the last peer of a layer, and the sum: each from what a device owns before
it to what it owns after.
-/

@[expose] public section

set_option backward.proofsInPublic true

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (K : Dev nD × Option (Fin 112) → ℕ)

/-! ## A loop over peers -/

theorem seqL_nil {J : Type} (Φ : J → sProp 𝕄) : bigSepL [] Φ = iprop(emp) := rfl
theorem seqL_cons {J : Type} (i : J) (l : List J) (Φ : J → sProp 𝕄) : bigSepL (i :: l) Φ = iprop(Φ i ∗ bigSepL l Φ) := bigSepL_cons i l Φ

/-- A loop runs each peer's step on the peer's own resources, an invariant changing along the list. -/
theorem loop_spec (c : Dev nD) (lp : List (Fin 7) → PR F → PR F) (step : Fin 7 → PR F → PR F) (h₀ : ∀ k, lp [] k = k)
    (h₁ : ∀ o l k, lp (o :: l) k = step o (lp l k)) (I : List (Fin 7) → sProp 𝕄) (A B : Fin 7 → sProp 𝕄)
    (hstep : ∀ o l k Q, iprop(env m K ∗ I (o :: l) ∗ A o) ⊢ iprop(((I l ∗ B o) -∗ run c k Q) -∗ run c (step o k) Q)) :
    ∀ l k Q, iprop(env m K ∗ I l ∗ bigSepL l A) ⊢ iprop(((I [] ∗ bigSepL l B) -∗ run c k Q) -∗ run c (lp l k) Q)
  | [], k, Q => by
    rw [h₀]
    iintro ⟨-, HI, -⟩ Hk
    iapply Hk
    isplitl [HI]; · iexact HI
    rw [seqL_nil]; iempintro
  | o :: l, k, Q => by
    rw [h₁, seqL_cons, seqL_cons]
    iintro ⟨#He, HI, HA, HL⟩ Hk
    iapply (hstep o l (lp l k) Q) $$ [HI HA]
    · isplitr; · iexact He
      isplitl [HI]; · iexact HI
      iexact HA
    iintro ⟨HI, HB⟩
    iapply (loop_spec c lp step h₀ h₁ I A B hstep l k Q) $$ [HI HL]
    · isplitr; · iexact He
      isplitl [HI]; · iexact HI
      iexact HL
    iintro ⟨HI, HL⟩
    iapply Hk
    isplitl [HI]; · iexact HI
    isplitl [HB]; · iexact HB
    iexact HL

/-! ## What a step takes and leaves -/

/-- The two tokens of the copy to peer `o` in phase `p`. -/
def tok (c : Dev nD) (p o : Fin 7) : sProp 𝕄 :=
  iprop(dutyTok ER (sendC c p o) 0 (0 : Dev nD) ∗ dutyTok ER (recvC (tgt c p o) p o) 0 (0 : Dev nD))
/-- What waiting for a copy takes. -/
def rcv (c : Dev nD) (p o : Fin 7) : sProp 𝕄 := iprop(cred (tallyAt (recvC c p o) () N) ∗ atPos ER (recvC c p o) 0 ∅ 0)
/-- What waiting for a copy to have left takes. -/
def snt (c : Dev nD) (p o : Fin 7) : sProp 𝕄 := iprop(cred (tallyAt (sendC c p o) () N) ∗ atPos ER (sendC c p o) 0 ∅ 0)

/-- The rows of partial sums handed over with a gather: none with the last. -/
def handR (l : Fin 4) (c : Dev nD) (o : Fin 7) : sProp 𝕄 := if l = 3 then iprop(emp) else rAny (F := F) c (up c o)
/-- Those kept. -/
def keepR (l : Fin 4) (c : Dev nD) (o : Fin 7) : sProp 𝕄 := if l = 3 then rAny (F := F) c (up c o) else iprop(emp)

theorem hand_keep (l : Fin 4) (c : Dev nD) (o : Fin 7) : rAny (F := F) c (up c o) ⊢ iprop(handR l c o ∗ keepR l c o) := by
  unfold handR keepR; split
  · iintro H; isplitr; · iempintro
    iexact H
  · iintro H; isplitl; · iexact H
    iempintro

/-- Each signal gives its peer the rows of activations its block goes to. -/
theorem signals_spec (c : Dev nD) (B : CellTallies nD τ sig Unit) (l : List (Fin 7)) (k : PR F) (Q : PUnit → sProp 𝕄) :
    iprop(env m K ∗ ow c (oweB c B l) ∗ bigSepL l fun o => iprop(dutyTok ER (barC (up c o)) 0 c ∗ xAny c (up c o)))
      ⊢ iprop(((ow c B ∗ bigSepL l fun _ => iprop(emp)) -∗ run c k Q) -∗ run c (signals c l k) Q) :=
  loop_spec m K c (signals c) (fun o k => .op (.semSignal (Dev.tc (⟨upW c (wd o), upW_lt c o⟩ : Dev nD)) barS ((1 : ℕ) : ℤ)) fun _ => k)
    (fun _ => rfl) (fun _ _ _ => rfl) (fun l => ow c (oweB c B l)) _ _ (fun o l k Q => by
      rw [upW_dev]
      iintro ⟨#He, Ho, Ht, Hx⟩ Hk
      unfold ow
      icases Ho with ⟨%W, Ho⟩
      ihave Hc := (env_bar m K (up c o)) $$ He
      icases Hc with ⟨#HI, #Hr⟩
      iapply (Rounds.wp_signal 𝒱₀ ER (sched m) (c : Thread nD τ) none (dst := (up c o : Thread nD τ)) (κ := K (up c o, none))
        (d := c) (by rw [duties_bar]; exact Finset.mem_erase.mpr ⟨(up_ne c o).symm, Finset.mem_univ _⟩) (amount_bar m (up c o) c) () (oweB c B l) rfl (W := W))
        $$ [Ho Ht Hx]
      · isplitr; · iexact HI
        isplitl [Ho]; · iexact Ho
        isplitl [Ht]; · iexact Ht
        isplitl [Hx]; · rw [payload_bar]; iexact Hx
        iexact Hr
      iintro Ho
      iapply Hk
      isplitl [Ho]; · iexists W; iexact Ho
      iempintro) l k Q

/-- What a gather's copy to peer `o` takes. -/
def gIn (l : Fin 4) (c : Dev nD) (o : Fin 7) : sProp 𝕄 :=
  iprop(xP c c (lf o) (blk m l.val c) ∗ xAny (up c o) c ∗ handR l c o ∗ tok c (gp l) o)

/-- A gather sends the block to every peer. -/
theorem gather_spec (c : Dev nD) (l : Fin 4) (R : List (Fin 7 × Fin 7)) (os : List (Fin 7)) (k : PR F) (Q : PUnit → sProp 𝕄) :
    iprop(env m K ∗ ow c (owe c (os.map (fun o => (gp l, o)) ++ R)) ∗ bigSepL os (gIn m l c))
      ⊢ iprop(((ow c (owe c R) ∗ bigSepL os fun o => cred (tallyAt (sendC c (gp l) o) () N)) -∗ run c k Q)
        -∗ run c (gather c (gp l) os k) Q) :=
  loop_spec m K c (gather c (gp l)) (fun o k => .op (.enqueueDma (xOwn c) (.remote (Dev.tc (⟨upW c (wd o), upW_lt c o⟩ : Dev nD)) (xOwn c) (.dma (sendS (gp l) o)))
      (.dma (recvS (gp l) o)) (xOwn_words c) (xOwn_words c) ⟨⟨rfl, Or.inl rfl⟩, trivial⟩) fun _ => k)
    (fun _ => rfl) (fun _ _ _ => rfl) (fun os => ow c (owe c (os.map (fun o => (gp l, o)) ++ R))) _ _ (fun o os k Q => by
      unfold gIn tok xAny xP
      iintro ⟨#He, Ho, Hx, ⟨%w, Hd⟩, HR, Ht₁, Ht₂⟩ Hk
      iapply (copy_spec m K c (up c o) _ (upW_dev c o) (gp l) o (tgt_gp c l o) (xOwn c) (xOwn c) (q := lf o) (v := blk m l.val c) (w := w) (G := handR l c o)
        (os.map (fun o => (gp l, o)) ++ R) rfl (by rw [xOwn_row, sendPay_gp]; unfold xP; exact BI.Entails.refl _)
        (by rw [xOwn_row]; exact gather_pay m l c o) k Q) $$ [Ho Hx Hd HR Ht₁ Ht₂]
      · rw [xOwn_row]
        isplitr; · iexact He
        isplitl [Hx]; · iexact Hx
        isplitl [Hd HR]
        · isplitl [Hd]; · iexact Hd
          iexact HR
        isplitl [Ho]; · iexact Ho
        isplitl [Ht₁]; · iexact Ht₁
        rw [tgt_gp]; iexact Ht₂
      iintro ⟨Hc, Ho⟩
      iapply Hk
      isplitl [Ho]; · iexact Ho
      iexact Hc) os k Q
where
  /-- What lands is the receiver's payload. -/
  gather_pay (m : (ℓ : Loc nD τ sig) → Buf (Elt F) ℓ) (l : Fin 4) (c : Dev nD) (o : Fin 7) :
    iprop(owns (up c o : Thread nD τ) (row xM c) fullShare (blk m l.val c) ∗ handR l c o) ⊢ recvPay m (up c o) (gp l) o := by
    unfold handR recvPay
    rw [if_pos (show (gp l).val % 2 = 0 from Nat.mul_mod_right 2 _), show (gp l).val / 2 = l.val from Nat.mul_div_cancel_left _ (by decide), dn_up]
    by_cases h : l = 3
    · subst h; rw [if_pos rfl, if_pos (by decide)]; unfold xP; exact BI.Entails.refl _
    · rw [if_neg h, if_neg (fun e => h (Fin.ext (by unfold gp at e; dsimp only at e; show l.val = 3; omega)))]; unfold xP; exact BI.Entails.refl _

/-- Waiting for a gather's copies to have left. -/
theorem gatherSent_spec (c : Dev nD) (p : Fin 7) (O : CellTallies nD τ sig Unit) (hO : Above 0 O) (os : List (Fin 7)) (k : PR F) (Q : PUnit → sProp 𝕄) :
    iprop(env m K ∗ ow c O ∗ bigSepL os (snt c p))
      ⊢ iprop(((ow c O ∗ bigSepL os fun o => iprop(sendPay m c p o ∗ semVal (sendC c p o) 0)) -∗ run c k Q)
        -∗ run c (gatherSent c p os k) Q) :=
  loop_spec m K c (gatherSent c p) (fun o k => .op (.waitDma2 (sendS p o) (xOwn c) (xOwn c) (xOwn_words c) (xOwn_words c)) fun _ => k)
    (fun _ => rfl) (fun _ _ _ => rfl) (fun _ => ow c O) _ _ (fun o os k Q => by
      unfold snt
      iintro ⟨#He, Ho, Hc, Ha⟩ Hk
      iapply (waitSend_spec m K c p o (xOwn c) (xOwn c) rfl O hO k Q) $$ [Ho Hc Ha]
      · isplitr; · iexact He
        isplitl [Hc]; · iexact Hc
        isplitl [Ho] <;> iassumption
      iexact Hk) os k Q

/-- Waiting for a scatter's copies to have left. -/
theorem scatterSent_spec (c : Dev nD) (p : Fin 7) (O : CellTallies nD τ sig Unit) (hO : Above 0 O) (os : List (Fin 7)) (k : PR F) (Q : PUnit → sProp 𝕄) :
    iprop(env m K ∗ ow c O ∗ bigSepL os (snt c p))
      ⊢ iprop(((ow c O ∗ bigSepL os fun o => iprop(sendPay m c p o ∗ semVal (sendC c p o) 0)) -∗ run c k Q)
        -∗ run c (scatterSent c p os k) Q) :=
  loop_spec m K c (scatterSent c p) (fun o k => .op (.waitDma2 (sendS p o) (rOwn c) (pRow c o) (rOwn_words c) (pRow_words c o)) fun _ => k)
    (fun _ => rfl) (fun _ _ _ => rfl) (fun _ => ow c O) _ _ (fun o os k Q => by
      unfold snt
      iintro ⟨#He, Ho, Hc, Ha⟩ Hk
      iapply (waitSend_spec m K c p o (rOwn c) (pRow c o) rfl O hO k Q) $$ [Ho Hc Ha]
      · isplitr; · iexact He
        isplitl [Hc]; · iexact Hc
        isplitl [Ho] <;> iassumption
      iexact Hk) os k Q

/-! ## A peer's partial sum -/

/-- What a peer's partial sum takes, before the wait for the peer's block; -/
def pIn (l : Fin 3) (c : Dev nD) (o : Fin 7) : sProp 𝕄 :=
  iprop(rcv c (gp l.castSucc) o ∗ pAny c (dn c o) ∗ tok c (sp l) o)
/-- after it; -/
def pMid (l : Fin 3) (c : Dev nD) (o : Fin 7) : sProp 𝕄 :=
  iprop(xP c (dn c o) fullShare (blk m l.val (dn c o)) ∗ rAny (dn c o) c ∗ semVal (recvC c (gp l.castSucc) o) 0 ∗ pAny c (dn c o) ∗ tok c (sp l) o)
/-- and what is left of it. -/
def pOut (l : Fin 3) (c : Dev nD) (o : Fin 7) : sProp 𝕄 :=
  iprop(semVal (recvC c (gp l.castSucc) o) 0 ∗ cred (tallyAt (sendC c (sp l) o) () N))

/-- The wait for a peer's block. -/
theorem waitBlock_spec (c : Dev nD) (l : Fin 3) (o : Fin 7) (O : CellTallies nD τ sig Unit) (hO : Above (2 * l.val + 2) O) (k : PR F) (Q : PUnit → sProp 𝕄) :
    iprop(env m K ∗ ow c O ∗ pIn l c o) ⊢ iprop(((ow c O ∗ pMid m l c o) -∗ run c k Q) -∗ run c (waitBlock c (gp l.castSucc) o k) Q) := by
  unfold pIn pMid rcv waitBlock
  iintro ⟨#He, Ho, ⟨Hc, Ha⟩, Hp, Ht⟩ Hk
  iapply (waitRecv_spec m K c (gp l.castSucc) o (xOwn c) (xOwn c) rfl O hO k Q) $$ [Ho Hc Ha]
  · isplitr; · iexact He
    isplitl [Hc]; · iexact Hc
    isplitl [Ho] <;> iassumption
  rw [recvPay_gp]
  iintro ⟨Ho, ⟨Hx, Hr⟩, Hz⟩
  iapply Hk
  isplitl [Ho]; · iexact Ho
  isplitl [Hx]; · iexact Hx
  isplitl [Hr]; · iexact Hr
  isplitl [Hz]; · iexact Hz
  isplitl [Hp] <;> iassumption

/-- The load of a peer's block. -/
theorem loadX_spec (c : Dev nD) (o : Fin 7) (q : PosShare TreeShare) (v : Blk F) (k : Blk F → PR F) (Q : PUnit → sProp 𝕄) :
    xP c (dn c o) q v ⊢ iprop((xP c (dn c o) q v -∗ run c (k v) Q) -∗ run c (loadX c o k) Q) := by
  unfold xP loadX
  exact load_row c (dn c o) xM (off3 c o) (off3_row c o) v _ (k v) (fun x hx => by rw [eq_of_heq hx]) Q

/-- The partial sum is stored and sent back, with the rows the peer's next block goes to. -/
theorem back_spec (c : Dev nD) (l : Fin 3) (o : Fin 7) (v : Blk F) (hv : v = part m l c o) (R : List (Fin 7 × Fin 7)) (k : PR F) (Q : PUnit → sProp 𝕄) :
    iprop(env m K ∗ ow c (owe c ((sp l, o) :: R)) ∗ pMid m l c o)
      ⊢ iprop(((ow c (owe c R) ∗ pOut l c o) -∗ run c k Q) -∗ run c (storeP c o v (scatter c (sp l) o k)) Q) := by
  subst hv
  unfold pMid pOut tok storeP scatter pAny rAny
  iintro ⟨#He, Ho, Hx, ⟨%w, Hr⟩, Hz, ⟨%u, Hp⟩, Ht₁, Ht₂⟩ Hk
  unfold pP rP
  iapply (load_row c (dn c o) pM (off3 c o) (off3_row c o) u _ _ (fun _ _ => rfl) Q) $$ Hp
  iintro Hp
  iapply (store_row c (dn c o) pM (off3 c o) (off3_row c o) u (part m l c o) HEq.rfl _ Q) $$ Hp
  iintro Hp
  iapply (copy_spec m K c (dn c o) _ (dnW_dev c o) (sp l) o (tgt_sp c l o) (pRow c o) (rOwn c) (q := fullShare) (v := part m l c o) (w := w)
    (G := xAny c (dn c o)) R rfl (by rw [pRow_row, sendPay_sp]; exact pay₁ c (dn c o) _)
    (by rw [rOwn_row, recvPay_sp, up_dn]; unfold rP; exact BI.Entails.refl _) k Q) $$ [Ho Hx Hp Hr Ht₁ Ht₂]
  · rw [pRow_row, rOwn_row]
    isplitr; · iexact He
    isplitl [Hp]; · iexact Hp
    isplitl [Hr Hx]
    · isplitl [Hr]; · iexact Hr
      unfold xAny; iexists _; iexact Hx
    isplitl [Ho]; · iexact Ho
    isplitl [Ht₁]; · iexact Ht₁
    rw [tgt_sp]; iexact Ht₂
  iintro ⟨Hc, Ho⟩
  iapply Hk
  isplitl [Ho]; · iexact Ho
  isplitl [Hz] <;> iassumption
where
  pay₁ (c d : Dev nD) (v : Blk F) : (owns (c : Thread nD τ) (row pM d) fullShare v : sProp 𝕄) ⊢ pAny c d := by
    unfold pAny pP; iintro H; iexists v; iexact H

end Cert.KernelIdeal.Proof

end

end
-- ==== Proof.Layer.lean ====
module

public import proofs.«01_k».proof.Proof.Loops

/-!
# A layer
-/

@[expose] public section

set_option backward.proofsInPublic true

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (K : Dev nD × Option (Fin 112) → ℕ)

/-! ## Lists of resources -/

theorem seqL_mono {J : Type} {Φ Ψ : J → sProp 𝕄} (h : ∀ j, Φ j ⊢ Ψ j) : ∀ l : List J, bigSepL l Φ ⊢ bigSepL l Ψ
  | [] => BI.Entails.refl _
  | j :: l => by rw [seqL_cons, seqL_cons]; exact BI.sep_mono (h j) (seqL_mono h l)

theorem seqL_split {J : Type} (Φ Ψ : J → sProp 𝕄) : ∀ l : List J, bigSepL l (fun j => iprop(Φ j ∗ Ψ j)) ⊢ iprop(bigSepL l Φ ∗ bigSepL l Ψ)
  | [] => by rw [seqL_nil, seqL_nil, seqL_nil]; iintro -; isplitl <;> iempintro
  | j :: l => by
    rw [seqL_cons, seqL_cons, seqL_cons]
    iintro ⟨⟨H₁, H₂⟩, H⟩
    ihave H' := (seqL_split Φ Ψ l) $$ H
    icases H' with ⟨H₃, H₄⟩
    isplitl [H₁ H₃]
    · isplitl [H₁] <;> iassumption
    isplitl [H₂] <;> iassumption

theorem seqL_join {J : Type} (Φ Ψ : J → sProp 𝕄) : ∀ l : List J, iprop(bigSepL l Φ ∗ bigSepL l Ψ) ⊢ bigSepL l (fun j => iprop(Φ j ∗ Ψ j))
  | [] => by rw [seqL_nil, seqL_nil, seqL_nil]; iintro -; iempintro
  | j :: l => by
    rw [seqL_cons, seqL_cons, seqL_cons]
    iintro ⟨⟨H₁, H₃⟩, H₂, H₄⟩
    isplitl [H₁ H₂]
    · isplitl [H₁] <;> iassumption
    iapply (seqL_join Φ Ψ l)
    isplitl [H₃] <;> iassumption

/-! ## Lending a device's own rows to its copies -/

/-- A memref owned at a share is owned at all its leaves. -/
theorem owns_leaves (c : Dev nD) (M : Memref sig .tc .vmem S64x512 .bf16) (X : Blk F) :
    ∀ (n : ℕ) (q : PosShare TreeShare), (owns (c : Thread nD τ) M q X : sProp 𝕄)
      = bigSep Finset.univ fun i : Fin (2 ^ n) => owns (c : Thread nD τ) M (ShareLeaves.leaf n q i) X
  | 0, q => (bigSep_univ_of_subsingleton (0 : Fin 1) (Φ := fun i : Fin (2 ^ 0) => (owns (c : Thread nD τ) M (ShareLeaves.leaf 0 q i) X : sProp 𝕄))).symm
  | n + 1, q => by
    have h : (owns (c : Thread nD τ) M q X : sProp 𝕄) = iprop(owns (c : Thread nD τ) M q.left X ∗ owns (c : Thread nD τ) M q.right X) :=
      BI.Entails.antisymm (owns_halves (Val := Elt F) (c : Thread nD τ) M q X).1 (owns_halves (Val := Elt F) (c : Thread nD τ) M q X).2
    rw [h, owns_leaves c M X n q.left, owns_leaves c M X n q.right,
      bigSep_univ_equiv (ShareLeaves.sumEquiv n) (fun i : Fin (2 ^ (n + 1)) => (owns (c : Thread nD τ) M (ShareLeaves.leaf (n + 1) q i) X : sProp 𝕄)),
      bigSep_univ_sum]
    simp only [ShareLeaves.leaf_inl, ShareLeaves.leaf_inr]
    rfl

/-- A device's own rows are the share it keeps and one for each peer. -/
theorem xOwn_shares (c : Dev nD) (v : Blk F) :
    xP c c fullShare v = iprop(xP c c lfKeep v ∗ bigSepL offs fun o => xP c c (lf o) v) := by
  unfold xP
  rw [owns_leaves c (row xM c) v 3 fullShare, bigSep_univ_eq_bigSepL [7, 0, 1, 2, 3, 4, 5, 6] (by decide) (by decide)]
  rfl

/-! ## The peers' partial sums -/

/-- Two peers' blocks are waited for, and their partial sums computed and sent back. -/
theorem pair_spec (c : Dev nD) (l : Fin 3) (o o' : Fin 7) (W₁ : FVec F S512x1024 .bf16) (W₂ : FVec F S1024x512 .bf16)
    (h : k0_pay15 W₁ W₂ (blk m l.val (dn c o)) (blk m l.val (dn c o')) = part m l c o)
    (h' : k0_pay16 W₁ W₂ (blk m l.val (dn c o)) (blk m l.val (dn c o')) = part m l c o')
    (R : List (Fin 7 × Fin 7)) (hR : ∀ x ∈ R, 2 * l.val < x.1.val) (k : PR F) (Q : PUnit → sProp 𝕄) :
    iprop(env m K ∗ ow c (owe c ((sp l, o) :: (sp l, o') :: R)) ∗ pIn l c o ∗ pIn l c o')
      ⊢ iprop(((ow c (owe c R) ∗ pOut l c o ∗ pOut l c o') -∗ run c k Q)
        -∗ run c (pair c (gp l.castSucc) (sp l) o o' W₁ W₂ k) Q) := by
  have hA : Above (2 * l.val + 2) (owe c ((sp l, o) :: (sp l, o') :: R)) := above_owe _ _ _ fun x hx => by
    rcases List.mem_cons.mp hx with rfl | hx
    · show 2 * l.val + 2 < 2 * l.val + 1 + 2; omega
    rcases List.mem_cons.mp hx with rfl | hx
    · show 2 * l.val + 2 < 2 * l.val + 1 + 2; omega
    have := hR x hx; omega
  unfold pair
  iintro ⟨#He, Ho, H₁, H₂⟩ Hk
  iapply (waitBlock_spec m K c l o _ hA _ Q) $$ [Ho H₁]
  · isplitr; · iexact He
    isplitl [Ho] <;> iassumption
  iintro ⟨Ho, H₁⟩
  iapply (waitBlock_spec m K c l o' _ hA _ Q) $$ [Ho H₂]
  · isplitr; · iexact He
    isplitl [Ho] <;> iassumption
  iintro ⟨Ho, H₂⟩
  ihave H₁' := (show pMid m l c o ⊢ iprop(xP c (dn c o) fullShare (blk m l.val (dn c o)) ∗ rAny (dn c o) c ∗ semVal (recvC c (gp l.castSucc) o) 0 ∗ pAny c (dn c o) ∗ tok c (sp l) o) from .rfl) $$ H₁
  icases H₁' with ⟨Hx₁, H₁⟩
  iapply (loadX_spec c o fullShare (blk m l.val (dn c o)) _ Q) $$ Hx₁
  iintro Hx₁
  ihave H₂' := (show pMid m l c o' ⊢ iprop(xP c (dn c o') fullShare (blk m l.val (dn c o')) ∗ rAny (dn c o') c ∗ semVal (recvC c (gp l.castSucc) o') 0 ∗ pAny c (dn c o') ∗ tok c (sp l) o') from .rfl) $$ H₂
  icases H₂' with ⟨Hx₂, H₂⟩
  iapply (loadX_spec c o' fullShare (blk m l.val (dn c o')) _ Q) $$ Hx₂
  iintro Hx₂
  iapply (back_spec m K c l o _ h _ _ Q) $$ [Ho Hx₁ H₁]
  · isplitr; · iexact He
    isplitl [Ho]; · iexact Ho
    unfold pMid
    isplitl [Hx₁] <;> iassumption
  iintro ⟨Ho, H₁⟩
  iapply (back_spec m K c l o' _ h' _ _ Q) $$ [Ho Hx₂ H₂]
  · isplitr; · iexact He
    isplitl [Ho]; · iexact Ho
    unfold pMid
    isplitl [Hx₂] <;> iassumption
  iintro ⟨Ho, H₂⟩
  iapply Hk
  isplitl [Ho]; · iexact Ho
  isplitl [H₁] <;> iassumption

/-- The same for the last peer. -/
theorem single_spec (c : Dev nD) (l : Fin 3) (o : Fin 7) (W₁ : FVec F S512x1024 .bf16) (W₂ : FVec F S1024x512 .bf16)
    (h : k0_pay20 W₁ W₂ (blk m l.val (dn c o)) = part m l c o)
    (R : List (Fin 7 × Fin 7)) (hR : ∀ x ∈ R, 2 * l.val < x.1.val) (k : PR F) (Q : PUnit → sProp 𝕄) :
    iprop(env m K ∗ ow c (owe c ((sp l, o) :: R)) ∗ pIn l c o)
      ⊢ iprop(((ow c (owe c R) ∗ pOut l c o) -∗ run c k Q) -∗ run c (single c (gp l.castSucc) (sp l) o W₁ W₂ k) Q) := by
  have hA : Above (2 * l.val + 2) (owe c ((sp l, o) :: R)) := above_owe _ _ _ fun x hx => by
    rcases List.mem_cons.mp hx with rfl | hx
    · show 2 * l.val + 2 < 2 * l.val + 1 + 2; omega
    have := hR x hx; omega
  unfold single
  iintro ⟨#He, Ho, H₁⟩ Hk
  iapply (waitBlock_spec m K c l o _ hA _ Q) $$ [Ho H₁]
  · isplitr; · iexact He
    isplitl [Ho] <;> iassumption
  iintro ⟨Ho, H₁⟩
  ihave H₁' := (show pMid m l c o ⊢ iprop(xP c (dn c o) fullShare (blk m l.val (dn c o)) ∗ rAny (dn c o) c ∗ semVal (recvC c (gp l.castSucc) o) 0 ∗ pAny c (dn c o) ∗ tok c (sp l) o) from .rfl) $$ H₁
  icases H₁' with ⟨Hx₁, H₁⟩
  iapply (loadX_spec c o fullShare (blk m l.val (dn c o)) _ Q) $$ Hx₁
  iintro Hx₁
  iapply (back_spec m K c l o _ h _ _ Q) $$ [Ho Hx₁ H₁]
  · isplitr; · iexact He
    isplitl [Ho]; · iexact Ho
    unfold pMid
    isplitl [Hx₁] <;> iassumption
  iintro ⟨Ho, H₁⟩
  iapply Hk
  isplitl [Ho] <;> iassumption

/-! ## The sum -/

/-- What is left of a peer's partial sum that was added. -/
def sOut (l : Fin 3) (c : Dev nD) (o : Fin 7) : sProp 𝕄 :=
  iprop(rAny (F := F) c (up c o) ∗ xAny (up c o) c ∗ semVal (recvC c (sp l) o) 0)

/-- The partial sums are added as they arrive. -/
theorem reduce_spec (c : Dev nD) (l : Fin 3) (O : CellTallies nD τ sig Unit) (hO : Above (2 * l.val + 1 + 2) O) (k : Acc F → PR F) (Q : PUnit → sProp 𝕄) :
    ∀ (os : List (Fin 7)) (a : Acc F), iprop(env m K ∗ ow c O ∗ bigSepL os (rcv c (sp l)))
      ⊢ iprop(((ow c O ∗ bigSepL os (sOut l c))
          -∗ run c (k (os.foldl (fun a o => addf a (extf .f32 (part m l (up c o) o) bitsLt_bf16_f32)) a)) Q)
        -∗ run c (reduce c (sp l) os a k) Q)
  | [], a => by
    unfold reduce
    iintro ⟨-, Ho, -⟩ Hk
    iapply Hk
    isplitl; · iexact Ho
    rw [seqL_nil]; iempintro
  | o :: os, a => by
    rw [seqL_cons, seqL_cons]
    unfold reduce waitPart
    iintro ⟨#He, Ho, H, HL⟩ Hk
    ihave H' := (show rcv c (sp l) o ⊢ iprop(cred (tallyAt (recvC c (sp l) o) () N) ∗ atPos ER (recvC c (sp l) o) 0 ∅ 0) from .rfl) $$ H
    icases H' with ⟨Hc, Ha⟩
    iapply (waitRecv_spec m K c (sp l) o (pRow c o) (rOwn c) rfl O hO _ Q) $$ [Ho Hc Ha]
    · isplitr; · iexact He
      isplitl [Hc]; · iexact Hc
      isplitl [Ho] <;> iassumption
    rw [recvPay_sp]
    iintro ⟨Ho, ⟨Hr, Hx⟩, Hz⟩
    unfold rP
    iapply (load_row c (up c o) rM (off5 c o) (off5_row c o) (part m l (up c o) o) _ _ (fun x hx => by rw [eq_of_heq hx]) Q) $$ Hr
    iintro Hr
    iapply (reduce_spec c l O hO k Q os _) $$ [Ho HL]
    · isplitr; · iexact He
      isplitl [Ho] <;> iassumption
    iintro ⟨Ho, HL⟩
    iapply Hk
    isplitl [Ho]; · iexact Ho
    isplitl [Hr Hx Hz]
    · unfold sOut rAny rP
      isplitl [Hr]; · iexists _; iexact Hr
      isplitl [Hx] <;> iassumption
    iexact HL

/-- This device's block is stored. -/
theorem storeOwn_spec (c : Dev nD) (v v' : Blk F) (k : PR F) (Q : PUnit → sProp 𝕄) :
    xP c c fullShare v ⊢ iprop((xP c c fullShare v' -∗ run c k Q) -∗ run c (storeOwn c v' k) Q) := by
  unfold xP storeOwn
  iintro H Hk
  iapply (load_row c c xM (off1 c) (off1_row c) v _ _ (fun _ _ => rfl) Q) $$ H
  iintro H
  iapply (store_row c c xM (off1 c) (off1_row c) v v' HEq.rfl _ Q) $$ H
  iexact Hk

/-! ## The layer -/

/-- What a layer takes, -/
def lIn (l : Fin 3) (c : Dev nD) : sProp 𝕄 :=
  iprop(bigSepL offs (pIn l c) ∗ bigSepL offs (snt c (gp l.castSucc)) ∗ xP c c lfKeep (blk m l.val c) ∗ bigSepL offs (rcv c (sp l))
    ∗ (bigSepL offs fun o => atPos ER (sendC c (sp l) o) 0 ∅ 0) ∗ bigSepL offs (tok c (gp l.succ)))
/-- the cells it closes, -/
def lZero (l : Fin 3) (c : Dev nD) : sProp 𝕄 :=
  iprop((bigSepL offs fun o => semVal (recvC c (gp l.castSucc) o) 0) ∗ (bigSepL offs fun o => semVal (sendC c (gp l.castSucc) o) 0)
    ∗ (bigSepL offs fun o => semVal (recvC c (sp l) o) 0) ∗ (bigSepL offs fun o => semVal (sendC c (sp l) o) 0))
/-- and what it leaves. -/
def lOut (l : Fin 3) (c : Dev nD) : sProp 𝕄 :=
  iprop((bigSepL offs fun o => cred (tallyAt (sendC c (gp l.succ) o) () N)) ∗ xP c c lfKeep (blk m (l.val + 1) c)
    ∗ (bigSepL offs fun o => pAny c (dn c o)) ∗ bigSepL offs (keepR l.succ c) ∗ lZero l c)

/-- The peers' partial sums are computed and sent back. -/
theorem peers_spec (c : Dev nD) (l : Fin 3) (R : List (Fin 7 × Fin 7)) (hR : ∀ x ∈ R, 2 * l.val < x.1.val) (k : PR F) (Q : PUnit → sProp 𝕄) :
    iprop(env m K ∗ ow c (owe c (ph (sp l) ++ R)) ∗ bigSepL offs (pIn l c))
      ⊢ iprop(((ow c (owe c R) ∗ bigSepL offs (pOut l c)) -∗ run c k Q)
        -∗ run c (pair c (gp l.castSucc) (sp l) 0 1 (w1 m l c) (w2 m l c) <| pair c (gp l.castSucc) (sp l) 2 3 (w1 m l c) (w2 m l c) <|
            pair c (gp l.castSucc) (sp l) 4 5 (w1 m l c) (w2 m l c) <| single c (gp l.castSucc) (sp l) 6 (w1 m l c) (w2 m l c) k) Q) := by
  have hs : ∀ (o : Fin 7), 2 * l.val < ((sp l, o) : Fin 7 × Fin 7).1.val := fun o => by show 2 * l.val < 2 * l.val + 1; omega
  have hc : ∀ (o : Fin 7) (R : List (Fin 7 × Fin 7)), (∀ x ∈ R, 2 * l.val < x.1.val) → ∀ x ∈ (sp l, o) :: R, 2 * l.val < x.1.val :=
    fun o R h x hx => (List.mem_cons.mp hx).elim (fun e => e ▸ hs o) (h x)
  have h6 := hc 6 R hR
  have h4 := hc 4 _ (hc 5 _ h6)
  have h2 := hc 2 _ (hc 3 _ h4)
  show iprop(env m K ∗ ow c (owe c ((sp l, 0) :: (sp l, 1) :: (sp l, 2) :: (sp l, 3) :: (sp l, 4) :: (sp l, 5) :: (sp l, 6) :: R))
    ∗ pIn l c 0 ∗ pIn l c 1 ∗ pIn l c 2 ∗ pIn l c 3 ∗ pIn l c 4 ∗ pIn l c 5 ∗ pIn l c 6) ⊢
      iprop(((ow c (owe c R) ∗ pOut l c 0 ∗ pOut l c 1 ∗ pOut l c 2 ∗ pOut l c 3 ∗ pOut l c 4 ∗ pOut l c 5 ∗ pOut l c 6) -∗ _) -∗ _)
  iintro ⟨#He, Ho, H0, H1, H2, H3, H4, H5, H6⟩ Hk
  iapply (pair_spec m K c l 0 1 _ _ rfl rfl _ h2 _ Q) $$ [Ho H0 H1]
  · isplitr; · iexact He
    isplitl [Ho]; · iexact Ho
    isplitl [H0] <;> iassumption
  iintro ⟨Ho, H0, H1⟩
  iapply (pair_spec m K c l 2 3 _ _ rfl rfl _ h4 _ Q) $$ [Ho H2 H3]
  · isplitr; · iexact He
    isplitl [Ho]; · iexact Ho
    isplitl [H2] <;> iassumption
  iintro ⟨Ho, H2, H3⟩
  iapply (pair_spec m K c l 4 5 _ _ rfl rfl _ h6 _ Q) $$ [Ho H4 H5]
  · isplitr; · iexact He
    isplitl [Ho]; · iexact Ho
    isplitl [H4] <;> iassumption
  iintro ⟨Ho, H4, H5⟩
  iapply (single_spec m K c l 6 _ _ rfl _ hR _ Q) $$ [Ho H6]
  · isplitr; · iexact He
    isplitl [Ho] <;> iassumption
  iintro ⟨Ho, H6⟩
  iapply Hk
  isplitl [Ho]; · iexact Ho
  isplitl [H0]; · iexact H0
  isplitl [H1]; · iexact H1
  isplitl [H2]; · iexact H2
  isplitl [H3]; · iexact H3
  isplitl [H4]; · iexact H4
  isplitl [H5] <;> iassumption

/-- A gather takes each peer's share of the block, the rows at the peer, the rows handed over and the tokens. -/
theorem gIn_join (l : Fin 4) (c : Dev nD) :
    iprop((bigSepL offs fun o => xP c c (lf o) (blk m l.val c)) ∗ (bigSepL offs fun o => xAny (up c o) c) ∗ bigSepL offs (handR l c) ∗ bigSepL offs (tok c (gp l)))
      ⊢ bigSepL offs (gIn m l c) := by
  unfold gIn
  iintro ⟨H₁, H₂, H₃, H₄⟩
  iapply (seqL_join _ _ offs)
  isplitl [H₁]; · iexact H₁
  iapply (seqL_join _ _ offs)
  isplitl [H₂]; · iexact H₂
  iapply (seqL_join _ _ offs)
  isplitl [H₃] <;> iassumption

/-- One layer. -/
theorem layer_spec (c : Dev nD) (l : Fin 3) (R : List (Fin 7 × Fin 7)) (hR : ∀ x ∈ R, 2 * l.val + 2 < x.1.val) (k : Acc F → PR F) (Q : PUnit → sProp 𝕄) :
    iprop(env m K ∗ ow c (owe c (ph (sp l) ++ (ph (gp l.succ) ++ R))) ∗ lIn m l c)
      ⊢ iprop(((ow c (owe c R) ∗ lOut m l c) -∗ run c (k (acc m l c)) Q)
        -∗ run c (layer c l (own m l.val c) (w1 m l c) (w2 m l c) k) Q) := by
  have hg : ∀ x ∈ ph (gp l.succ) ++ R, 2 * l.val + 1 < x.1.val := fun x hx => by
    rcases List.mem_append.mp hx with h | h
    · obtain ⟨o, -, rfl⟩ := List.mem_map.mp h; show 2 * l.val + 1 < 2 * (l.val + 1); omega
    · have := hR x h; omega
  unfold layer lIn
  iintro ⟨#He, Ho, Hp, Hs, Hx, Hr, Ha, Ht⟩ Hk
  iapply (peers_spec m K c l (ph (gp l.succ) ++ R) (fun x hx => by have := hg x hx; omega) _ Q) $$ [Ho Hp]
  · isplitr; · iexact He
    isplitl [Ho] <;> iassumption
  unfold pOut
  iintro ⟨Ho, Hp⟩
  ihave Hp' := (seqL_split _ _ offs) $$ Hp
  icases Hp' with ⟨Hz₁, Hc⟩
  iapply (gatherSent_spec m K c (gp l.castSucc) _ (above_owe 0 c _ fun _ _ => Nat.succ_pos _) offs _ Q) $$ [Ho Hs]
  · isplitr; · iexact He
    isplitl [Ho] <;> iassumption
  iintro ⟨Ho, Hs⟩
  ihave Hs' := (seqL_split _ _ offs) $$ Hs
  icases Hs' with ⟨Hl, Hz₂⟩
  ihave Hl' := (seqL_mono (fun o => Entails.of_eq (sendPay_gp m c o l.castSucc)) offs) $$ Hl
  iapply (reduce_spec m K c l _ (above_owe _ c _ fun x hx => by have := hg x hx; omega) _ Q offs _) $$ [Ho Hr]
  · isplitr; · iexact He
    isplitl [Ho] <;> iassumption
  rw [← acc_eq]
  unfold sOut
  iintro ⟨Ho, Hr⟩
  ihave Hr' := (seqL_split _ _ offs) $$ Hr
  icases Hr' with ⟨Hr, Hr2⟩
  ihave Hr2' := (seqL_split _ _ offs) $$ Hr2
  icases Hr2' with ⟨Hxp, Hz₃⟩
  ihave Hfull := (Entails.of_eq (xOwn_shares c (blk m l.val c)).symm) $$ [Hx Hl']
  · isplitl [Hx]; · iexact Hx
    iexact Hl'
  iapply (storeOwn_spec c _ (k0_pay60 (acc m l c)) _ Q) $$ Hfull
  rw [← blk_succ]
  iintro Hfull
  ihave Hfull' := (Entails.of_eq (xOwn_shares c (blk m (l.val + 1) c))) $$ Hfull
  icases Hfull' with ⟨Hx, Hl⟩
  ihave Hhk := (seqL_mono (fun o => hand_keep l.succ c o) offs) $$ Hr
  ihave Hhk' := (seqL_split _ _ offs) $$ Hhk
  icases Hhk' with ⟨Hh, Hkeep⟩
  iapply (gather_spec m K c l.succ R offs _ Q) $$ [Ho Hl Hxp Hh Ht]
  · isplitr; · iexact He
    isplitl [Ho]; · iexact Ho
    iapply (gIn_join m l.succ c)
    isplitl [Hl]; · iexact Hl
    isplitl [Hxp]; · iexact Hxp
    isplitl [Hh] <;> iassumption
  iintro ⟨Ho, Hcg⟩
  iapply (scatterSent_spec m K c (sp l) _ (above_owe 0 c _ fun _ _ => Nat.succ_pos _) offs _ Q) $$ [Ho Hc Ha]
  · isplitr; · iexact He
    isplitl [Ho]; · iexact Ho
    unfold snt
    iapply (seqL_join _ _ offs)
    isplitl [Hc] <;> iassumption
  iintro ⟨Ho, Hs⟩
  ihave Hs' := (seqL_split _ _ offs) $$ Hs
  icases Hs' with ⟨Hp, Hz₄⟩
  ihave Hp' := (seqL_mono (fun o => Entails.of_eq (sendPay_sp m c o l)) offs) $$ Hp
  iapply Hk
  isplitl [Ho]; · iexact Ho
  unfold lOut lZero
  isplitl [Hcg]; · iexact Hcg
  isplitl [Hx]; · iexact Hx
  isplitl [Hp']; · iexact Hp'
  isplitl [Hkeep]; · iexact Hkeep
  isplitl [Hz₁]; · iexact Hz₁
  isplitl [Hz₂]; · iexact Hz₂
  isplitl [Hz₃] <;> iassumption

end Cert.KernelIdeal.Proof

end

end
-- ==== Proof.Rows.lean ====
module

public import proofs.«01_k».proof.Proof.Layer

/-!
# Buffers as rows

A whole buffer is the eight blocks of 64 rows, one for each device, and back.
-/

@[expose] public section

set_option backward.proofsInPublic true

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (K : Dev nD × Option (Fin 112) → ℕ)

/-! ## The rows of a buffer -/

theorem mem_rowR (s : Dev nD) (y : S512x512.Idx) : y ∈ (rowR s).set ↔ (y 0).val / 64 = s.val := by
  rw [Rect.mem_set_unit]
  have h1 : (y 1).val < 512 := (y 1).isLt
  constructor
  · intro H; have a0 : 64 * s.val ≤ (y 0).val ∧ (y 0).val < 64 * s.val + 64 := H 0; omega
  · intro H i; fin_cases i
    · show 64 * s.val ≤ (y 0).val ∧ (y 0).val < 64 * s.val + 64; omega
    · show 0 ≤ (y 1).val ∧ (y 1).val < 0 + 512; omega
theorem rows_disjoint (s t : Dev nD) (h : s ≠ t) : Disjoint (rowR s).set (rowR t).set := by
  rw [Finset.disjoint_left]; intro y hs ht; rw [mem_rowR] at hs ht; exact h (Fin.ext (hs.symm.trans ht))

/-- The device whose rows a row is among. -/
def rowDev (y : S512x512.Idx) : Dev nD := ⟨(y 0).val / 64, by have h : (y 0).val < 512 := (y 0).isLt; show _ < 8; omega⟩
/-- Its place among them. -/
def rowPos (y : S512x512.Idx) : S64x512.Idx := fun
  | ⟨0, _⟩ => (⟨(y 0).val % 64, Nat.mod_lt _ (by decide)⟩ : Fin 64)
  | ⟨1, _⟩ => (⟨(y 1).val, (y 1).isLt⟩ : Fin 512)

theorem rows_cover : (Finset.univ : Finset (Dev nD)).biUnion (fun s => (rowR s).set) = Finset.univ := by
  ext y; simp only [Finset.mem_biUnion, Finset.mem_univ, true_and, iff_true]; exact ⟨rowDev y, (mem_rowR _ _).mpr rfl⟩

/-- Eight blocks, one above the other. -/
def glue {α : Type} (V : Dev nD → S64x512.Idx → α) : S512x512.Idx → α := fun y => V (rowDev y) (rowPos y)

theorem rowDev_emb (s : Dev nD) (j : S64x512.Idx) : rowDev ((rowR s).emb j) = s := by
  have h : (j 0).val < 64 := (j 0).isLt
  refine Fin.ext ?_
  show (64 * s.val + 1 * (j 0).val) / 64 = s.val; omega
theorem rowPos_emb (s : Dev nD) (j : S64x512.Idx) : rowPos ((rowR s).emb j) = j := by
  have h : (j 0).val < 64 := (j 0).isLt
  funext a; fin_cases a
  · refine Fin.ext ?_; show (64 * s.val + 1 * (j 0).val) % 64 = (j 0).val; omega
  · refine Fin.ext ?_; show 0 + 1 * (j 1).val = (j 1).val; omega
theorem glue_emb {α : Type} (V : Dev nD → S64x512.Idx → α) (s : Dev nD) (j : S64x512.Idx) : glue V ((rowR s).emb j) = V s j := by
  unfold glue; rw [rowDev_emb, rowPos_emb]

variable {e : EltTy}

theorem rows_split (c : Dev nD) (M : Memref sig .tc .vmem S512x512 e) (X : S512x512.Idx → Elt F e) :
    (owns (c : Thread nD τ) M fullShare X : sProp 𝕄)
      ⊢ bigSep Finset.univ fun s : Dev nD => owns (c : Thread nD τ) (row M s) fullShare (fun j => X ((rowR s).emb j)) :=
  owns_rects (c : Thread nD τ) M fullShare rowR (fun _ _ => rfl) rows_disjoint rows_cover X

/-- The blocks together are the buffer. -/
theorem rows_join [∀ e, Nonempty (Elt F e)] (c : Dev nD) (M : Memref sig .tc .vmem S512x512 e) (V : Dev nD → S64x512.Idx → Elt F e) :
    (bigSep Finset.univ fun s : Dev nD => owns (c : Thread nD τ) (row M s) fullShare (V s) : sProp 𝕄)
      ⊢ owns (c : Thread nD τ) M fullShare (glue V) := by
  have h := owns_of_rects (Ix := Unit) (Name := ℕ) (U := UU) (Lvl := ℕ) (Val := Elt F) (c : Thread nD τ) M fullShare rowR (fun _ _ => rfl) rows_disjoint rows_cover (glue V)
  simp only [glue_emb] at h
  exact h

/-- Rows at any contents. -/
def rowAny (M : Memref sig .tc .vmem S512x512 e) (c s : Dev nD) : sProp 𝕄 := iprop(∃ v : S64x512.Idx → Elt F e, owns (c : Thread nD τ) (row M s) fullShare v)

theorem rowAny_intro (c s : Dev nD) (M : Memref sig .tc .vmem S512x512 e) (v : S64x512.Idx → Elt F e) :
    (owns (c : Thread nD τ) (row M s) fullShare v : sProp 𝕄) ⊢ rowAny M c s := by
  unfold rowAny; iintro H; iexists v; iexact H

/-- A buffer at any contents is rows at any contents, -/
theorem any_split (c : Dev nD) (b : Ref sig .tc) (M : Memref sig .tc .vmem S512x512 e) (X : S512x512.Idx → Elt F e) :
    (owns (c : Thread nD τ) M fullShare X : sProp 𝕄) ⊢ bigSep Finset.univ (rowAny (F := F) M c) :=
  (rows_split c M X).trans (bigSep_mono fun s _ => rowAny_intro c s M _)
/-- and back. -/
theorem any_join [∀ e, Nonempty (Elt F e)] (c : Dev nD) (M : Memref sig .tc .vmem S512x512 e) :
    (bigSep Finset.univ (rowAny (F := F) M c) : sProp 𝕄) ⊢ iprop(∃ X, owns (c : Thread nD τ) M fullShare X) := by
  unfold rowAny
  iintro H
  ihave H' := (BI.bigSep_exists_pi Finset.univ (fun (s : Dev nD) (v : S64x512.Idx → Elt F e) => (owns (c : Thread nD τ) (row M s) fullShare v : sProp 𝕄))) $$ H
  icases H' with ⟨%V, H⟩
  iexists glue V
  iapply (rows_join c M V); iexact H

/-! ## A device and its peers -/

/-- A fact of every device: of `c`, and of the seven after it; -/
theorem all_up (c : Dev nD) (Φ : Dev nD → sProp 𝕄) : bigSep Finset.univ Φ = iprop(Φ c ∗ bigSepL offs fun o => Φ (up c o)) := by
  rw [bigSep_univ_eq_bigSepL (c :: offs.map (up c)) (by revert c; decide) (by revert c; decide), seqL_cons]
  rfl
/-- or of the seven before it. -/
theorem all_dn (c : Dev nD) (Φ : Dev nD → sProp 𝕄) : bigSep Finset.univ Φ = iprop(Φ c ∗ bigSepL offs fun o => Φ (dn c o)) := by
  rw [bigSep_univ_eq_bigSepL (c :: offs.map (dn c)) (by revert c; decide) (by revert c; decide), seqL_cons]
  rfl
/-- A fact of every other device. -/
theorem others_up (c : Dev nD) (Φ : Dev nD → sProp 𝕄) : bigSep (Finset.univ.erase c) Φ = bigSepL offs fun o => Φ (up c o) := by
  rw [bigSep_eq_bigSepL_of_eq (offs.map (up c)) (by revert c; decide) (by revert c; decide)]
  rfl

/-! ## The three scratch buffers -/

/-- A scratch buffer at any contents. -/
def scrAny (b : Ref sig .tc) (c : Dev nD) : sProp 𝕄 := iprop(∃ f : Buf (Elt F) ((c : Thread nD τ).loc b), ((c : Thread nD τ).loc b) ↦{fullShare} f)

theorem all_x (c : Dev nD) : bigSep Finset.univ (xAny (F := F) c) = bigSep Finset.univ (rowAny (F := F) xM c) := rfl
theorem scr_x (c : Dev nD) : scrAny cc0_scratch0 c ⊢ bigSep Finset.univ (xAny (F := F) c) := by
  rw [all_x]
  unfold scrAny; iintro ⟨%f, H⟩
  iapply (any_split (F := F) c cc0_scratch0 xM f)
  iapply (Entails.of_eq (owns_whole (c : Thread nD τ) cc0_scratch0 fullShare f).symm); iexact H
theorem all_p (c : Dev nD) : bigSep Finset.univ (pAny (F := F) c) = bigSep Finset.univ (rowAny (F := F) pM c) := rfl
theorem scr_p (c : Dev nD) : scrAny cc0_scratch1 c ⊢ bigSep Finset.univ (pAny (F := F) c) := by
  rw [all_p]
  unfold scrAny; iintro ⟨%f, H⟩
  iapply (any_split (F := F) c cc0_scratch1 pM f)
  iapply (Entails.of_eq (owns_whole (c : Thread nD τ) cc0_scratch1 fullShare f).symm); iexact H
theorem all_r (c : Dev nD) : bigSep Finset.univ (rAny (F := F) c) = bigSep Finset.univ (rowAny (F := F) rM c) := rfl
theorem scr_r (c : Dev nD) : scrAny cc0_scratch2 c ⊢ bigSep Finset.univ (rAny (F := F) c) := by
  rw [all_r]
  unfold scrAny; iintro ⟨%f, H⟩
  iapply (any_split (F := F) c cc0_scratch2 rM f)
  iapply (Entails.of_eq (owns_whole (c : Thread nD τ) cc0_scratch2 fullShare f).symm); iexact H

theorem x_scr (c : Dev nD) : bigSep Finset.univ (xAny (F := F) c) ⊢ scrAny cc0_scratch0 c := by
  rw [all_x]
  iintro H
  ihave H' := (any_join (F := F) c xM) $$ H
  icases H' with ⟨%X, H⟩
  unfold scrAny; iexists X
  iapply (Entails.of_eq (owns_whole (c : Thread nD τ) cc0_scratch0 fullShare X)); iexact H
theorem p_scr (c : Dev nD) : bigSep Finset.univ (pAny (F := F) c) ⊢ scrAny cc0_scratch1 c := by
  rw [all_p]
  iintro H
  ihave H' := (any_join (F := F) c pM) $$ H
  icases H' with ⟨%X, H⟩
  unfold scrAny; iexists X
  iapply (Entails.of_eq (owns_whole (c : Thread nD τ) cc0_scratch1 fullShare X)); iexact H
theorem r_scr (c : Dev nD) : bigSep Finset.univ (rAny (F := F) c) ⊢ scrAny cc0_scratch2 c := by
  rw [all_r]
  iintro H
  ihave H' := (any_join (F := F) c rM) $$ H
  icases H' with ⟨%X, H⟩
  unfold scrAny; iexists X
  iapply (Entails.of_eq (owns_whole (c : Thread nD τ) cc0_scratch2 fullShare X)); iexact H

end Cert.KernelIdeal.Proof

end

end
-- ==== Proof.Body.lean ====
module

public import proofs.«01_k».proof.Proof.Rows

/-!
# The body

A device's run from what it is given at launch to its block of every result.
-/

@[expose] public section

set_option backward.proofsInPublic true

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (K : Dev nD × Option (Fin 112) → ℕ)

/-! ## One layer, from phase to phase -/

theorem seq7 (Φ : Fin 7 → sProp 𝕄) : bigSepL offs Φ = iprop(Φ 0 ∗ Φ 1 ∗ Φ 2 ∗ Φ 3 ∗ Φ 4 ∗ Φ 5 ∗ Φ 6) := rfl

/-- What a device has for the copies of a phase: to wait for those it gets, for its own to leave, to make them. -/
def phR (c : Dev nD) (p : Fin 7) : sProp 𝕄 :=
  iprop(bigSepL offs (rcv c p) ∗ (bigSepL offs fun o => atPos ER (sendC c p o) 0 ∅ 0) ∗ bigSepL offs (tok c p))
/-- The semaphores of a phase at zero, after it. -/
def phZ (c : Dev nD) (p : Fin 7) : sProp 𝕄 :=
  iprop((bigSepL offs fun o => semVal (recvC c p o) 0) ∗ bigSepL offs fun o => semVal (sendC c p o) 0)

/-- What a device holds between a gather and what follows it. -/
def carry (l : Fin 4) (c : Dev nD) : sProp 𝕄 :=
  iprop((bigSepL offs fun o => cred (tallyAt (sendC c (gp l) o) () N)) ∗ xP c c lfKeep (blk m l.val c) ∗ (bigSepL offs fun o => pAny c (dn c o))
    ∗ bigSepL offs (rcv c (gp l)) ∗ bigSepL offs fun o => atPos ER (sendC c (gp l) o) 0 ∅ 0)

theorem lIn_intro (l : Fin 3) (c : Dev nD) :
    iprop(carry m l.castSucc c ∗ bigSepL offs (rcv c (sp l)) ∗ (bigSepL offs fun o => atPos ER (sendC c (sp l) o) 0 ∅ 0) ∗ bigSepL offs (tok c (sp l))
        ∗ bigSepL offs (tok c (gp l.succ)))
      ⊢ lIn m l c := by
  unfold carry lIn pIn snt
  iintro ⟨⟨Hc, Hx, Hp, Hr, Ha⟩, Hr₁, Ha₁, Ht₁, Ht₂⟩
  isplitl [Hr Hp Ht₁]
  · iapply (seqL_join _ _ offs)
    isplitl [Hr]; · iexact Hr
    iapply (seqL_join _ _ offs)
    isplitl [Hp] <;> iassumption
  isplitl [Hc Ha]
  · iapply (seqL_join _ _ offs)
    isplitl [Hc] <;> iassumption
  isplitl [Hx]; · iexact Hx
  isplitl [Hr₁]; · iexact Hr₁
  isplitl [Ha₁] <;> iassumption

/-- A layer takes what is held after a gather, and the next two phases' resources, to what is held after the next gather. -/
theorem layer_step (c : Dev nD) (l : Fin 3) (R : List (Fin 7 × Fin 7)) (hR : ∀ x ∈ R, 2 * l.val + 2 < x.1.val) (k : Acc F → PR F) (Q : PUnit → sProp 𝕄) :
    iprop(env m K ∗ ow c (owe c (ph (sp l) ++ (ph (gp l.succ) ++ R))) ∗ carry m l.castSucc c ∗ phR c (sp l) ∗ phR c (gp l.succ))
      ⊢ iprop(((ow c (owe c R) ∗ carry m l.succ c ∗ bigSepL offs (keepR l.succ c) ∗ phZ c (gp l.castSucc) ∗ phZ c (sp l)) -∗ run c (k (acc m l c)) Q)
        -∗ run c (layer c l (own m l.val c) (w1 m l c) (w2 m l c) k) Q) := by
  unfold phR
  iintro ⟨#He, Ho, Hc, ⟨Hr, Ha, Ht⟩, Hr', Ha', Ht'⟩ Hk
  iapply (layer_spec m K c l R hR k Q) $$ [Ho Hc Hr Ha Ht Ht']
  · isplitr; · iexact He
    isplitl [Ho]; · iexact Ho
    iapply (lIn_intro m l c)
    isplitl [Hc]; · iexact Hc
    isplitl [Hr]; · iexact Hr
    isplitl [Ha]; · iexact Ha
    isplitl [Ht] <;> iassumption
  unfold lOut lZero
  iintro ⟨Ho, Hcg, Hx, Hp, Hkeep, Hz₁, Hz₂, Hz₃, Hz₄⟩
  iapply Hk
  unfold carry phZ
  isplitl [Ho]; · iexact Ho
  isplitl [Hcg Hx Hp Hr' Ha']
  · isplitl [Hcg]; · iexact Hcg
    isplitl [Hx]; · iexact Hx
    isplitl [Hp]; · iexact Hp
    isplitl [Hr'] <;> iassumption
  isplitl [Hkeep]; · iexact Hkeep
  isplitl [Hz₁ Hz₂]
  · isplitl [Hz₁] <;> iassumption
  isplitl [Hz₃] <;> iassumption

/-! ## The first gather -/

/-- The first block is stored and sent. -/
theorem first_spec (c : Dev nD) (R : List (Fin 7 × Fin 7)) (k : PR F) (Q : PUnit → sProp 𝕄) :
    iprop(env m K ∗ ow c (owe c (ph 0 ++ R)) ∗ xAny c c ∗ (bigSepL offs fun o => xAny (up c o) c) ∗ (bigSepL offs fun o => rAny c (up c o))
        ∗ (bigSepL offs fun o => pAny c (dn c o)) ∗ phR c 0)
      ⊢ iprop(((ow c (owe c R) ∗ carry m 0 c) -∗ run c k Q) -∗ run c (storeOwn c (k0_pay1 (xin m c)) <| gather c 0 offs k) Q) := by
  unfold phR
  rw [← blk_zero]
  iintro ⟨#He, Ho, Hx, Hxp, Hr, Hp, Hrc, Ha, Ht⟩ Hk
  ihave Hx' := (show xAny (F := F) c c ⊢ iprop(∃ v, xP c c fullShare v) from .rfl) $$ Hx
  icases Hx' with ⟨%v, Hx⟩
  iapply (storeOwn_spec c v (blk m 0 c) _ Q) $$ Hx
  iintro Hx
  ihave Hx' := (Entails.of_eq (xOwn_shares c (blk m 0 c))) $$ Hx
  icases Hx' with ⟨Hx, Hl⟩
  iapply (show _ ⊢ iprop(((ow c (owe c R) ∗ bigSepL offs fun o => cred (tallyAt (sendC c (gp 0) o) () N)) -∗ run c k Q) -∗ run c (gather c 0 offs k) Q) from
      gather_spec m K c 0 R offs k Q) $$ [Ho Hl Hxp Hr Ht]
  · isplitr; · iexact He
    isplitl [Ho]; · iexact Ho
    iapply (gIn_join m 0 c)
    isplitl [Hl]; · iexact Hl
    isplitl [Hxp]; · iexact Hxp
    isplitl [Hr]; · iexact Hr
    iexact Ht
  iintro ⟨Ho, Hcg⟩
  iapply Hk
  unfold carry
  isplitl [Ho]; · iexact Ho
  isplitl [Hcg]; · iexact Hcg
  isplitl [Hx]; · iexact Hx
  isplitl [Hp]; · iexact Hp
  isplitl [Hrc]; · iexact Hrc
  iexact Ha

/-! ## The result -/

/-- The result's buffer. -/
abbrev oM : Memref sig .tc .vmem S512x512 .f32 := Memref.whole cc0_stg7_0
/-- Rows of it. -/
def oP (c s : Dev nD) (v : Acc F) : sProp 𝕄 := owns (c : Thread nD τ) (row oM s) fullShare v

/-- The block of the result that device `c` stores for device `s`: its own sums as they are, a peer's as they came. -/
def outBlk (c s : Dev nD) : Acc F := if s = c then acc m 2 c else extf .f32 (blk m 3 s) bitsLt_bf16_f32
/-- The result on device `c`. -/
def outAt (c : Dev nD) : (cc0_stg7_0 : Ref sig .tc).ty.Contents (Elt F) := glue (outBlk m c)

theorem outOwn_spec (c : Dev nD) (w v : Acc F) (k : PR F) (Q : PUnit → sProp 𝕄) :
    oP c c w ⊢ iprop((oP c c v -∗ run c k Q) -∗ run c (outOwn oM c v k) Q) := by
  unfold oP outOwn
  iintro H Hk
  iapply (load_row c c oM (off1 c) (off1_row c) w _ _ (fun _ _ => rfl) Q) $$ H
  iintro H
  iapply (store_row c c oM (off1 c) (off1_row c) w v HEq.rfl _ Q) $$ H
  iexact Hk
theorem outPeer_spec (c : Dev nD) (o : Fin 7) (w v : Acc F) (k : PR F) (Q : PUnit → sProp 𝕄) :
    oP c (dn c o) w ⊢ iprop((oP c (dn c o) v -∗ run c k Q) -∗ run c (outPeer oM c o v k) Q) := by
  unfold oP outPeer
  iintro H Hk
  iapply (load_row c (dn c o) oM (off3 c o) (off3_row c o) w _ _ (fun _ _ => rfl) Q) $$ H
  iintro H
  iapply (store_row c (dn c o) oM (off3 c o) (off3_row c o) w v HEq.rfl _ Q) $$ H
  iexact Hk

/-- What a peer's block of the result takes, and leaves. -/
def cIn (c : Dev nD) (o : Fin 7) : sProp 𝕄 := iprop(rcv c 6 o ∗ ∃ w : Acc F, oP c (dn c o) w)
@[inherit_doc cIn] def cOut (c : Dev nD) (o : Fin 7) : sProp 𝕄 :=
  iprop(xAny (F := F) c (dn c o) ∗ oP c (dn c o) (outBlk m c (dn c o)) ∗ semVal (recvC c 6 o) 0)

/-- The last gather's blocks are stored in the result. -/
theorem collect_spec (c : Dev nD) (os : List (Fin 7)) (k : PR F) (Q : PUnit → sProp 𝕄) :
    iprop(env m K ∗ ow c 0 ∗ bigSepL os (cIn c))
      ⊢ iprop(((ow c 0 ∗ bigSepL os (cOut m c)) -∗ run c k Q) -∗ run c (collect oM c os k) Q) :=
  loop_spec m K c (collect oM c) (fun o k => waitBlock c 6 o <| loadX c o fun v => outPeer oM c o (extf .f32 v bitsLt_bf16_f32) k)
    (fun _ => rfl) (fun _ _ _ => rfl) (fun _ => ow c 0) _ _ (fun o os k Q => by
      unfold cIn cOut rcv waitBlock
      iintro ⟨#He, Ho, ⟨Hc, Ha⟩, ⟨%w, Hout⟩⟩ Hk
      iapply (waitRecv_spec m K c 6 o (xOwn c) (xOwn c) rfl 0 (Above.zero _) _ Q) $$ [Ho Hc Ha]
      · isplitr; · iexact He
        isplitl [Hc]; · iexact Hc
        isplitl [Ho] <;> iassumption
      rw [recvPay_six]
      iintro ⟨Ho, ⟨Hx, -⟩, Hz⟩
      iapply (loadX_spec c o fullShare (blk m 3 (dn c o)) _ Q) $$ Hx
      iintro Hx
      iapply (outPeer_spec c o w _ _ Q) $$ Hout
      iintro Hout
      iapply Hk
      isplitl [Ho]; · iexact Ho
      isplitl [Hx]; · unfold xAny; iexists _; iexact Hx
      isplitl [Hout]; · unfold outBlk; rw [if_neg (dn_ne c o)]; iexact Hout
      iexact Hz) os k Q

/-! ## The barrier -/

/-- What a device has for the barrier. -/
def barR (c : Dev nD) : sProp 𝕄 :=
  iprop(atPos ER (barC c) 0 ∅ 0 ∗ cred (tallyAt (barC c) () 7) ∗ bigSepL offs fun o => dutyTok ER (barC (up c o)) 0 c)

/-- Every device signals every other and waits for all of them: the peers' rows for its block are its own then. -/
theorem barrier_spec (c : Dev nD) (k : PR F) (Q : PUnit → sProp 𝕄) :
    iprop(env m K ∗ ow c (O₀ c) ∗ barR c ∗ bigSepL offs fun o => xAny c (up c o))
      ⊢ iprop(((ow c (owe c allPh) ∗ (bigSepL offs fun o => xAny (up c o) c) ∗ semVal (barC c) 0) -∗ run c k Q)
        -∗ run c (signals c offs <| .op (.semWait barS ((7 : ℕ) : ℤ)) fun _ => k) Q) := by
  unfold barR O₀
  iintro ⟨#He, Ho, ⟨Ha, Hc, Ht⟩, Hx⟩ Hk
  iapply (signals_spec m K c (owe c allPh) offs _ Q) $$ [Ho Ht Hx]
  · isplitr; · iexact He
    isplitl [Ho]; · iexact Ho
    iapply (seqL_join _ _ offs)
    isplitl [Ht] <;> iassumption
  iintro ⟨Ho, -⟩
  iapply (wait_spec m K c none rfl (wpE_semWait_eq 𝒱₀ (c : Thread nD τ) none Set.univ) (expect_bar m c).symm
    (P := bigSepL offs fun o => xAny (up c o) c) (by rw [Finset.sdiff_empty, duties_bar]; exact others_up c fun d => xAny d c)
    (owe c allPh) 1 (by rw [lv_bar]) (above_owe 1 c _ fun _ _ => by omega) _ Q) $$ [Ho Hc Ha]
  · isplitr; · iexact He
    isplitl [Hc]; · iexact Hc
    isplitl [Ho] <;> iassumption
  iexact Hk

/-! ## The whole body -/

theorem zeros2 : (![0, 0] : Fin 2 → Nat) = fun _ => 0 := funext fun a => by fin_cases a <;> rfl

/-- A load of a whole window. -/
theorem loadW_spec (c : Dev nD) {s : Shape} (M : Memref sig .tc .vmem s .f32) (r : Rect s) (h : 0 < r.shape.numel) (v : s.Idx → Elt F .f32)
    (v' : r.shape.Idx → Elt F .f32) (hv : ∀ f, M.view.read (Elt F) f = v → M.view.readAt (Elt F) r.toLoadRect f = v')
    (hM : M.view.set = Finset.univ) (k : (r.shape.Idx → Elt F .f32) → PR F) (Q : PUnit → sProp 𝕄) :
    (owns (c : Thread nD τ) M fullShare v : sProp 𝕄) ⊢ iprop((owns (c : Thread nD τ) M fullShare v -∗ run c (k v') Q) -∗ run c (loadW M r h k) Q) := by
  unfold loadW
  iintro H Hk
  ihave H' := (show (owns (c : Thread nD τ) M fullShare v : sProp 𝕄) ⊢ iprop(∃ f, ⌜M.view.read (Elt F) f = v⌝ ∗ (M.view.loc (c : Thread nD τ) ↦[M.view.set]{fullShare} f)) from .rfl) $$ H
  icases H' with ⟨%f, %hf, H⟩
  iapply (wp_load 𝒱₀ (c : Thread nD τ) none Set.univ (m := M) (r := r.toLoadRect) (S := M.view.set) (f := f) (by rw [hM]; exact Finset.subset_univ _)) $$ H
  rw [hv f hf]
  iintro H
  iapply Hk
  subst hf
  iapply (owns_intro (c : Thread nD τ) M fullShare f); iexact H

/-- The windows of the arguments. -/
def winR (c : Dev nD) : sProp 𝕄 :=
  iprop(owns (c : Thread nD τ) (Memref.whole cc0_stg0_0) fullShare (xin m c)
    ∗ owns (c : Thread nD τ) (Memref.whole cc0_stg1_0) fullShare (a1 m c) ∗ owns (c : Thread nD τ) (Memref.whole cc0_stg2_0) fullShare (b1 m c)
    ∗ owns (c : Thread nD τ) (Memref.whole cc0_stg3_0) fullShare (a2 m c) ∗ owns (c : Thread nD τ) (Memref.whole cc0_stg4_0) fullShare (b2 m c)
    ∗ owns (c : Thread nD τ) (Memref.whole cc0_stg5_0) fullShare (a3 m c) ∗ owns (c : Thread nD τ) (Memref.whole cc0_stg6_0) fullShare (b3 m c))

theorem loadX0 (c : Dev nD) (k : (rX.shape.Idx → Elt F .f32) → PR F) (Q : PUnit → sProp 𝕄) :
    (owns (c : Thread nD τ) (Memref.whole cc0_stg0_0) fullShare (xin m c) : sProp 𝕄)
      ⊢ iprop((owns (c : Thread nD τ) (Memref.whole cc0_stg0_0) fullShare (xin m c) -∗ run c (k (xin m c)) Q)
        -∗ run c (loadW (Memref.whole cc0_stg0_0) rX h_S64x512 k) Q) :=
  loadW_spec c (Memref.whole cc0_stg0_0) rX h_S64x512 (xin m c) (xin m c) (fun f hf => (Memref.readAt_unit_zero (Elt F) cc0_stg0_0 zeros2 _ f).trans hf) (View.set_whole _) k Q

/-- The weights are loaded. -/
theorem weights_spec (c : Dev nD) (k : (rX.shape.Idx → Elt F .f32) → (rA.shape.Idx → Elt F .f32) → (rB.shape.Idx → Elt F .f32) → (rA.shape.Idx → Elt F .f32)
      → (rB.shape.Idx → Elt F .f32) → (rA.shape.Idx → Elt F .f32) → (rB.shape.Idx → Elt F .f32) → PR F) (Q : PUnit → sProp 𝕄) :
    winR m c ⊢ iprop((winR m c -∗ run c (k (xin m c) (a1 m c) (b1 m c) (a2 m c) (b2 m c) (a3 m c) (b3 m c)) Q)
      -∗ run c (loadW (Memref.whole cc0_stg0_0) rX h_S64x512 fun x =>
        loadW (Memref.whole cc0_stg1_0) rA h_S512x1024 fun a₁ => loadW (Memref.whole cc0_stg2_0) rB h_S1024x512 fun b₁ =>
        loadW (Memref.whole cc0_stg3_0) rA h_S512x1024 fun a₂ => loadW (Memref.whole cc0_stg4_0) rB h_S1024x512 fun b₂ =>
        loadW (Memref.whole cc0_stg5_0) rA h_S512x1024 fun a₃ => loadW (Memref.whole cc0_stg6_0) rB h_S1024x512 fun b₃ => k x a₁ b₁ a₂ b₂ a₃ b₃) Q) := by
  unfold winR
  iintro ⟨H0, H1, H2, H3, H4, H5, H6⟩ Hk
  iapply (loadX0 m c _ Q) $$ H0; iintro H0
  iapply (loadW_spec c (Memref.whole cc0_stg1_0) rA h_S512x1024 (a1 m c) (a1 m c) (fun f hf =>
    (Memref.readAt_unit_zero (Elt F) cc0_stg1_0 zeros2 _ f).trans hf) (View.set_whole _) _ Q) $$ H1; iintro H1
  iapply (loadW_spec c (Memref.whole cc0_stg2_0) rB h_S1024x512 (b1 m c) (b1 m c) (fun f hf =>
    (Memref.readAt_unit_zero (Elt F) cc0_stg2_0 zeros2 _ f).trans hf) (View.set_whole _) _ Q) $$ H2; iintro H2
  iapply (loadW_spec c (Memref.whole cc0_stg3_0) rA h_S512x1024 (a2 m c) (a2 m c) (fun f hf =>
    (Memref.readAt_unit_zero (Elt F) cc0_stg3_0 zeros2 _ f).trans hf) (View.set_whole _) _ Q) $$ H3; iintro H3
  iapply (loadW_spec c (Memref.whole cc0_stg4_0) rB h_S1024x512 (b2 m c) (b2 m c) (fun f hf =>
    (Memref.readAt_unit_zero (Elt F) cc0_stg4_0 zeros2 _ f).trans hf) (View.set_whole _) _ Q) $$ H4; iintro H4
  iapply (loadW_spec c (Memref.whole cc0_stg5_0) rA h_S512x1024 (a3 m c) (a3 m c) (fun f hf =>
    (Memref.readAt_unit_zero (Elt F) cc0_stg5_0 zeros2 _ f).trans hf) (View.set_whole _) _ Q) $$ H5; iintro H5
  iapply (loadW_spec c (Memref.whole cc0_stg6_0) rB h_S1024x512 (b3 m c) (b3 m c) (fun f hf =>
    (Memref.readAt_unit_zero (Elt F) cc0_stg6_0 zeros2 _ f).trans hf) (View.set_whole _) _ Q) $$ H6; iintro H6
  iapply Hk
  isplitl [H0]; · iexact H0
  isplitl [H1]; · iexact H1
  isplitl [H2]; · iexact H2
  isplitl [H3]; · iexact H3
  isplitl [H4]; · iexact H4
  isplitl [H5] <;> iassumption

/-- What a device has at launch beside the invariants; -/
def bodyIn (c : Dev nD) : sProp 𝕄 :=
  iprop(barR c ∗ bigSepL offs (phR c) ∗ (scrAny cc0_scratch0 c ∗ scrAny cc0_scratch1 c ∗ scrAny cc0_scratch2 c))
/-- and at the end. -/
def bodyOut (c : Dev nD) : sProp 𝕄 :=
  iprop(semVal (barC c) 0 ∗ bigSepL offs (phZ c) ∗ (scrAny cc0_scratch0 c ∗ scrAny cc0_scratch1 c ∗ scrAny cc0_scratch2 c))

/-- The blocks of the result, and of the peers' activations, after the last gather. -/
theorem result_join (c : Dev nD) :
    iprop(oP c c (acc m 2 c) ∗ bigSepL offs fun o => oP c (dn c o) (outBlk m c (dn c o))) ⊢ owns (c : Thread nD τ) oM fullShare (outAt m c) := by
  have h : oP c c (acc m 2 c) = oP c c (outBlk m c c) := by unfold outBlk; rw [if_pos rfl]
  rw [h, ← all_dn c fun s => oP c s (outBlk m c s)]
  exact rows_join c oM (outBlk m c)

/-- After the last layer: the result is stored as its blocks arrive, and the last copies have left. -/
theorem last_spec (c : Dev nD) (Q : PUnit → sProp 𝕄) :
    iprop(env m K ∗ ow c 0 ∗ carry m 3 c ∗ ∃ X, owns (c : Thread nD τ) oM fullShare X)
      ⊢ iprop(((ow c 0 ∗ bigSep Finset.univ (xAny (F := F) c) ∗ (bigSepL offs fun o => pAny c (dn c o)) ∗ phZ c 6 ∗ owns (c : Thread nD τ) oM fullShare (outAt m c)) -∗ Q ⟨⟩)
        -∗ run c (outOwn oM c (acc m 2 c) <| collect oM c offs <| gatherSent c 6 offs <| .ret ⟨⟩) Q) := by
  unfold carry
  iintro ⟨#He, Ho, ⟨Hc, Hx, Hp, Hr, Ha⟩, ⟨%X, Hout⟩⟩ Hk
  ihave Hout' := ((rows_split c oM X).trans (Entails.of_eq (all_dn c fun s => owns (c : Thread nD τ) (row oM s) fullShare (fun j => X ((rowR s).emb j))))) $$ Hout
  icases Hout' with ⟨Hown, Hout⟩
  iapply (outOwn_spec c (fun j => X ((rowR c).emb j)) (acc m 2 c) _ Q) $$ [Hown]
  · unfold oP; iexact Hown
  iintro Hown
  iapply (collect_spec m K c offs _ Q) $$ [Ho Hr Hout]
  · isplitr; · iexact He
    isplitl [Ho]; · iexact Ho
    unfold cIn
    iapply (seqL_join _ _ offs)
    isplitl [Hr]; · iexact Hr
    iapply (seqL_mono (fun o => any_out c (dn c o) (fun j => X ((rowR (dn c o)).emb j))) offs)
    iexact Hout
  unfold cOut
  iintro ⟨Ho, Hb⟩
  ihave Hb' := (seqL_split _ _ offs) $$ Hb
  icases Hb' with ⟨Hxs, Hb⟩
  ihave Hb' := (seqL_split _ _ offs) $$ Hb
  icases Hb' with ⟨Hos, Hz⟩
  iapply (gatherSent_spec m K c 6 0 (Above.zero _) offs _ Q) $$ [Ho Hc Ha]
  · isplitr; · iexact He
    isplitl [Ho]; · iexact Ho
    unfold snt
    iapply (seqL_join _ _ offs)
    isplitl [Hc]; · iexact Hc
    iexact Ha
  iintro ⟨Ho, Hs⟩
  ihave Hs' := (seqL_split _ _ offs) $$ Hs
  icases Hs' with ⟨Hl, Hz₂⟩
  ihave Hl' := (show bigSepL offs (sendPay m c 6) ⊢ (bigSepL offs fun o => xP c c (lf o) (blk m 3 c)) from
    seqL_mono (fun o => Entails.of_eq (sendPay_gp m c o 3)) offs) $$ Hl
  rw [show run c (.ret ⟨⟩ : PR F) Q = _ from wp_ret _ _ _ _ Q]
  imodintro
  iapply Hk
  isplitl [Ho]; · iexact Ho
  isplitl [Hx Hl' Hxs]
  · rw [all_dn c]
    isplitl [Hx Hl']
    · unfold xAny; iexists (blk m 3 c)
      rw [xOwn_shares]
      isplitl [Hx]; · iexact Hx
      iexact Hl'
    iexact Hxs
  isplitl [Hp]; · iexact Hp
  isplitl [Hz Hz₂]
  · unfold phZ
    isplitl [Hz] <;> iassumption
  iapply (result_join m c)
  isplitl [Hown] <;> iassumption
where
  /-- Rows of the result at any contents. -/
  any_out (c s : Dev nD) (v : Acc F) : (owns (c : Thread nD τ) (row oM s) fullShare v : sProp 𝕄) ⊢ iprop(∃ w : Acc F, oP c s w) := by
    unfold oP; iintro H; iexists v; iexact H

set_option maxHeartbeats 1000000 in
/-- The body runs from the launch's resources to the result, everything handed out back. -/
theorem body_spec (c : Dev nD) (Q : PUnit → sProp 𝕄) :
    iprop(env m K ∗ ow c (O₀ c) ∗ bodyIn c ∗ winR m c ∗ ∃ X, owns (c : Thread nD τ) oM fullShare X)
      ⊢ iprop(((ow c 0 ∗ bodyOut c ∗ winR m c ∗ owns (c : Thread nD τ) oM fullShare (outAt m c)) -∗ Q ⟨⟩)
        -∗ run c (body (Memref.whole cc0_stg0_0) (Memref.whole cc0_stg1_0) (Memref.whole cc0_stg2_0) (Memref.whole cc0_stg3_0) (Memref.whole cc0_stg4_0)
            (Memref.whole cc0_stg5_0) (Memref.whole cc0_stg6_0) oM) Q) := by
  unfold body bodyIn
  rw [seq7]
  iintro ⟨#He, Ho, ⟨Hbar, ⟨H0, H1, H2, H3, H4, H5, H6⟩, Hsx, Hsp, Hsr⟩, Hw, Hout⟩ Hk
  rw [show ∀ k : Dev nD → PR F, run c (.op .deviceId k) Q = run c (k c) Q from fun k => wp_deviceId _ _ _ _]
  ihave Hx := ((scr_x c).trans (Entails.of_eq (all_up c _))) $$ Hsx
  icases Hx with ⟨Hxc, Hxs⟩
  ihave Hp := ((scr_p c).trans (Entails.of_eq (all_dn c _))) $$ Hsp
  icases Hp with ⟨Hpc, Hps⟩
  ihave Hr := ((scr_r c).trans (Entails.of_eq (all_up c _))) $$ Hsr
  icases Hr with ⟨Hrc, Hrs⟩
  iapply (barrier_spec m K c _ Q) $$ [Ho Hbar Hxs]
  · isplitr; · iexact He
    isplitl [Ho]; · iexact Ho
    isplitl [Hbar] <;> iassumption
  iintro ⟨Ho, Hxp, Hzb⟩
  ihave Hw' := (show winR m c ⊢ iprop(owns (c : Thread nD τ) (Memref.whole cc0_stg0_0) fullShare (xin m c) ∗ (owns (c : Thread nD τ) (Memref.whole cc0_stg0_0) fullShare (xin m c) -∗ winR m c)) from by
    unfold winR; iintro ⟨H0, H⟩; isplitl [H0]; · iexact H0
    iintro H0; isplitl [H0] <;> iassumption) $$ Hw
  icases Hw' with ⟨Hw0, Hw⟩
  iapply (loadX0 m c _ Q) $$ Hw0
  iintro Hw0
  ihave Hw' := Hw $$ Hw0
  iapply (first_spec m K c (ph 1 ++ (ph 2 ++ (ph 3 ++ (ph 4 ++ (ph 5 ++ (ph 6 ++ [])))))) _ Q) $$ [Ho Hxc Hxp Hrs Hps H0]
  · isplitr; · iexact He
    isplitl [Ho]; · iexact Ho
    isplitl [Hxc]; · iexact Hxc
    isplitl [Hxp]; · iexact Hxp
    isplitl [Hrs]; · iexact Hrs
    isplitl [Hps] <;> iassumption
  iintro ⟨Ho, Hc⟩
  iapply (weights_spec m c _ Q) $$ Hw'
  iintro Hw
  iapply (layer_step m K c 0 (ph 3 ++ (ph 4 ++ (ph 5 ++ (ph 6 ++ [])))) (by decide) _ Q) $$ [Ho Hc H1 H2]
  · isplitr; · iexact He
    isplitl [Ho]; · iexact Ho
    isplitl [Hc]; · iexact Hc
    isplitl [H1]; · iexact H1
    iexact H2
  iintro ⟨Ho, Hc, -, Z0, Z1⟩
  rw [show truncf .bf16 (acc m 0 c) bitsLt_bf16_f32 = own m 1 c from (own_succ m 0 c).symm]
  iapply (layer_step m K c 1 (ph 5 ++ (ph 6 ++ [])) (by decide) _ Q) $$ [Ho Hc H3 H4]
  · isplitr; · iexact He
    isplitl [Ho]; · iexact Ho
    isplitl [Hc]; · iexact Hc
    isplitl [H3]; · iexact H3
    iexact H4
  iintro ⟨Ho, Hc, -, Z2, Z3⟩
  rw [show truncf .bf16 (acc m 1 c) bitsLt_bf16_f32 = own m 2 c from (own_succ m 1 c).symm]
  iapply (layer_step m K c 2 [] (by decide) _ Q) $$ [Ho Hc H5 H6]
  · isplitr; · iexact He
    isplitl [Ho]; · iexact Ho
    isplitl [Hc]; · iexact Hc
    isplitl [H5]; · iexact H5
    iexact H6
  iintro ⟨Ho, Hc, Hrs, Z4, Z5⟩
  iapply (last_spec m K c Q) $$ [Ho Hc Hout]
  · isplitr; · iexact He
    isplitl [Ho]; · iexact Ho
    isplitl [Hc]; · iexact Hc
    iexact Hout
  iintro ⟨Ho, Hx, Hps, Z6, Hout⟩
  iapply Hk
  isplitl [Ho]; · iexact Ho
  isplitr [Hw Hout]
  · unfold bodyOut
    isplitl [Hzb]; · iexact Hzb
    isplitl [Z0 Z1 Z2 Z3 Z4 Z5 Z6]
    · rw [seq7]
      isplitl [Z0]; · iexact Z0
      isplitl [Z1]; · iexact Z1
      isplitl [Z2]; · iexact Z2
      isplitl [Z3]; · iexact Z3
      isplitl [Z4]; · iexact Z4
      isplitl [Z5]; · iexact Z5
      iexact Z6
    isplitl [Hx]; · iapply (x_scr c); iexact Hx
    isplitl [Hpc Hps]
    · iapply (p_scr c); rw [all_dn c]
      isplitl [Hpc] <;> iassumption
    iapply (r_scr c); rw [all_up c]
    isplitl [Hrc]; · iexact Hrc
    iexact Hrs
  isplitl [Hw]; · iexact Hw
  iexact Hout

end Cert.KernelIdeal.Proof

end

end
-- ==== Proof.Cells.lean ====
module

public import proofs.«01_k».proof.Proof.Body

/-!
# Cells, tokens and credit

The semaphores a launch hands each device, counted; the tokens each device pays with; the credit owed to each of its
cells.
-/

@[expose] public section

set_option backward.proofsInPublic true

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (K : Dev nD × Option (Fin 112) → ℕ)

/-! ## The semaphores, counted -/

/-- The unused semaphore of a group of eight. -/
def uIx (i : Fin 14) : Fin 112 := ⟨8 * i.val, by omega⟩

/-- The 112 semaphores: the unused ones, the sends, the receives. -/
def semOf : Fin 14 ⊕ ((Fin 7 × Fin 7) ⊕ (Fin 7 × Fin 7)) → Fin 112
  | .inl i => uIx i
  | .inr (.inl x) => sIx x.1 x.2
  | .inr (.inr x) => rIx x.1 x.2

theorem semOf_inj : Function.Injective semOf := by
  rintro (i | ⟨p, o⟩ | ⟨p, o⟩) (i' | ⟨p', o'⟩ | ⟨p', o'⟩) h <;>
    (have h := congrArg Fin.val h; dsimp only [semOf, uIx, sIx, rIx] at h) <;> first
      | (exfalso; omega)
      | (obtain rfl : i = i' := Fin.ext (by omega); rfl)
      | (obtain rfl : p = p' := Fin.ext (by omega)
         obtain rfl : o = o' := Fin.ext (by omega); rfl)
theorem semOf_bij : Function.Bijective semOf := (Fintype.bijective_iff_injective_and_card _).mpr ⟨semOf_inj, by decide⟩

/-- Every phase and peer. -/
theorem all_phases (Ψ : Fin 7 → Fin 7 → sProp 𝕄) :
    (bigSep Finset.univ fun x : Fin 7 × Fin 7 => Ψ x.1 x.2) = bigSepL offs fun p => bigSepL offs (Ψ p) := by
  have h (Φ : Fin 7 → sProp 𝕄) : bigSep Finset.univ Φ = bigSepL offs Φ := bigSep_univ_eq_bigSepL offs (by decide) (by decide) Φ
  rw [bigSep_univ_prod, h]
  simp only [h]

/-- A fact of every semaphore. -/
theorem all_sems (Φ : Fin 112 → sProp 𝕄) :
    bigSep Finset.univ Φ = iprop((bigSep Finset.univ fun i => Φ (uIx i)) ∗ (bigSepL offs fun p => bigSepL offs fun o => Φ (sIx p o))
      ∗ bigSepL offs fun p => bigSepL offs fun o => Φ (rIx p o)) := by
  rw [bigSep_univ_equiv (Equiv.ofBijective semOf semOf_bij) Φ, bigSep_univ_sum, bigSep_univ_sum, ← all_phases fun p o => Φ (sIx p o),
    ← all_phases fun p o => Φ (rIx p o)]
  rfl
/-- A fact of every semaphore and of the barrier. -/
theorem all_cells (Φ : Option (Fin 112) → sProp 𝕄) : bigSep Finset.univ Φ = iprop(Φ none ∗ bigSep Finset.univ fun i => Φ (some i)) := by
  rw [bigSep_univ_equiv (Equiv.optionEquivSumPUnit (Fin 112)).symm Φ, bigSep_univ_sum,
    bigSep_univ_of_subsingleton (PUnit.unit : PUnit.{1})]
  exact BI.Entails.antisymm BI.sep_comm BI.sep_comm

theorem dec_unused (i : Fin 14) : dec (⟨8 + (uIx i).val, by have := (uIx i).isLt; show _ < 120; omega⟩ : Fin 120) = none := by revert i; decide +kernel

/-! ## The cells, one by one different -/

theorem kcell_inj : Function.Injective kcell := by
  rintro ⟨c, k⟩ ⟨c', k'⟩ h
  obtain rfl : c = c' := congrArg (fun g : GSem nD τ sig => g.1.1) h
  have h2 : csem k = csem k' := congrArg Prod.snd h
  cases k with
  | none => cases k' with
    | none => rfl
    | some i => cases h2
  | some i => cases k' with
    | none => cases h2
    | some i' =>
      have h3 : (8 + i.val : ℕ) = 8 + i'.val := by injection h2 with h2; exact congrArg Fin.val h2
      obtain rfl : i = i' := Fin.ext (by omega)
      rfl

/-- Every cell of the protocol. -/
def cells : Finset (GSem nD τ sig) := Finset.univ.map ⟨kcell, kcell_inj⟩

/-- The tokens a device pays with: of the barriers it signals, of the copies it makes. -/
def tokOf : Dev nD × (Fin 7 ⊕ ((Fin 7 × Fin 7) ⊕ (Fin 7 × Fin 7))) → GSem nD τ sig × ℕ × Dev nD
  | (c, .inl o) => (barC (up c o), 0, c)
  | (c, .inr (.inl x)) => (sendC c x.1 x.2, 0, 0)
  | (c, .inr (.inr x)) => (recvC (tgt c x.1 x.2) x.1 x.2, 0, 0)

theorem tgt_inj (c c' : Dev nD) (p o : Fin 7) (h : tgt c p o = tgt c' p o) : c = c' := by
  unfold tgt at h; split at h
  · rw [← dn_up c o, h, dn_up]
  · rw [← up_dn c o, h, up_dn]
theorem send_inj {c c' : Dev nD} {p o p' o' : Fin 7} (h : sendC c p o = sendC c' p' o') : c = c' ∧ p = p' ∧ o = o' := by
  have h1 : sendS p o = sendS p' o' := by have := congrArg Prod.snd h; injection this
  have h2 := dec_send p o; rw [h1, dec_send] at h2
  simp only [Option.some.injEq, Prod.mk.injEq, true_and] at h2
  exact ⟨congrArg (fun g : GSem nD τ sig => g.1.1) h, h2.1.symm, h2.2.symm⟩
theorem recv_inj {c c' : Dev nD} {p o p' o' : Fin 7} (h : recvC c p o = recvC c' p' o') : c = c' ∧ p = p' ∧ o = o' := by
  have h1 : recvS p o = recvS p' o' := by have := congrArg Prod.snd h; injection this
  have h2 := dec_recv p o; rw [h1, dec_recv] at h2
  simp only [Option.some.injEq, Prod.mk.injEq, true_and] at h2
  exact ⟨congrArg (fun g : GSem nD τ sig => g.1.1) h, h2.1.symm, h2.2.symm⟩
theorem send_ne_recv {c c' : Dev nD} {p o p' o' : Fin 7} (h : sendC c p o = recvC c' p' o') : False := by
  have h1 : sendS p o = recvS p' o' := by have := congrArg Prod.snd h; injection this
  have h2 := dec_send p o; rw [h1, dec_recv] at h2
  simp at h2

theorem tokOf_inj : Function.Injective tokOf := by
  rintro ⟨c, o | ⟨p, o⟩ | ⟨p, o⟩⟩ ⟨c', o' | ⟨p', o'⟩ | ⟨p', o'⟩⟩ h <;> dsimp only [tokOf] at h
  · obtain rfl : c = c' := congrArg (fun x : GSem nD τ sig × ℕ × Dev nD => x.2.2) h
    obtain rfl : o = o' := up_inj c o o' (congrArg (fun x : GSem nD τ sig × ℕ × Dev nD => x.1.1.1) h)
    rfl
  · exact absurd (congrArg (fun x : GSem nD τ sig × ℕ × Dev nD => x.1.2) h) (fun h => by cases h)
  · exact absurd (congrArg (fun x : GSem nD τ sig × ℕ × Dev nD => x.1.2) h) (fun h => by cases h)
  · exact absurd (congrArg (fun x : GSem nD τ sig × ℕ × Dev nD => x.1.2) h) (fun h => by cases h)
  · obtain ⟨rfl, rfl, rfl⟩ := send_inj (congrArg Prod.fst h); rfl
  · exact (send_ne_recv (congrArg Prod.fst h)).elim
  · exact absurd (congrArg (fun x : GSem nD τ sig × ℕ × Dev nD => x.1.2) h) (fun h => by cases h)
  · exact (send_ne_recv (congrArg Prod.fst h).symm).elim
  · obtain ⟨h, rfl, rfl⟩ := recv_inj (congrArg Prod.fst h)
    obtain rfl := tgt_inj _ _ _ _ h; rfl

/-- Every token. -/
def allToks : Finset (GSem nD τ sig × ℕ × Dev nD) := Finset.univ.map ⟨tokOf, tokOf_inj⟩

/-- Those of one device. -/
def toks (c : Dev nD) : sProp 𝕄 :=
  iprop((bigSepL offs fun o => dutyTok ER (barC (up c o)) 0 c) ∗ bigSepL offs fun p => bigSepL offs (tok c p))

theorem toks_eq : bigSep allToks (fun x => (dutyTok ER x.1 x.2.1 x.2.2 : sProp 𝕄)) ⊢ bigSep Finset.univ fun c : Dev nD => toks c := by
  unfold allToks; rw [bigSep_map, bigSep_univ_prod]
  refine bigSep_mono fun c _ => ?_
  rw [bigSep_univ_sum, bigSep_univ_sum]
  have h₁ : (bigSep Finset.univ fun o : Fin 7 => (dutyTok ER (barC (up c o)) 0 c : sProp 𝕄)) = bigSepL offs fun o => dutyTok ER (barC (up c o)) 0 c :=
    bigSep_univ_eq_bigSepL offs (by decide) (by decide) _
  have h₂ := all_phases (F := F) fun p o => dutyTok ER (sendC c p o) 0 (0 : Dev nD)
  have h₃ := all_phases (F := F) fun p o => dutyTok ER (recvC (tgt c p o) p o) 0 (0 : Dev nD)
  unfold toks tok
  show iprop((bigSep Finset.univ fun o : Fin 7 => (dutyTok ER (barC (up c o)) 0 c : sProp 𝕄))
    ∗ (bigSep Finset.univ fun x : Fin 7 × Fin 7 => dutyTok ER (sendC c x.1 x.2) 0 (0 : Dev nD))
    ∗ bigSep Finset.univ fun x : Fin 7 × Fin 7 => dutyTok ER (recvC (tgt c x.1 x.2) x.1 x.2) 0 (0 : Dev nD)) ⊢ _
  rw [h₁, h₂, h₃]
  iintro ⟨H₁, H₂, H₃⟩
  isplitl [H₁]; · iexact H₁
  iapply (seqL_mono (fun p => seqL_join _ _ offs) offs)
  iapply (seqL_join _ _ offs)
  isplitl [H₂] <;> iassumption

/-! ## The credit owed to a device's cells -/

theorem bar_iff {a b : Dev nD} : barC a = barC b ↔ a = b := ⟨fun h => congrArg (fun g : GSem nD τ sig => g.1.1) h, fun h => h ▸ rfl⟩

theorem owe_bar (d c : Dev nD) : ∀ l : List (Fin 7 × Fin 7), owe d l (barC c) () = 0
  | [] => rfl
  | x :: l => by
    show (owe d l + tallyAt (recvC (tgt d x.1 x.2) x.1 x.2) () N) (barC c) () = 0
    rw [Pi.add_apply, Finsupp.add_apply, owe_bar d c l, tallyAt_ne_cell (fun h => by cases congrArg Prod.snd h)]; rfl
theorem oweB_bar (d c : Dev nD) (B : CellTallies nD τ sig Unit) (hB : B (barC c) () = 0) : ∀ l : List (Fin 7),
    oweB d B l (barC c) () = l.countP fun o => up d o = c
  | [] => hB
  | o :: l => by
    show (oweB d B l + tallyAt (barC (up d o)) () 1) (barC c) () = _
    rw [Pi.add_apply, Finsupp.add_apply, oweB_bar d c B hB l, tallyAt_apply, List.countP_cons]
    congr 1
    by_cases h : up d o = c
    · rw [if_pos ⟨bar_iff.mpr h.symm, rfl⟩]; simp [h]
    · rw [if_neg fun e => h (bar_iff.mp e.1).symm]; simp [h]
theorem oweB_recv (d c : Dev nD) (p o : Fin 7) (B : CellTallies nD τ sig Unit) : ∀ l : List (Fin 7),
    oweB d B l (recvC c p o) () = B (recvC c p o) ()
  | [] => rfl
  | o' :: l => by
    show (oweB d B l + tallyAt (barC (up d o')) () 1) (recvC c p o) () = _
    rw [Pi.add_apply, Finsupp.add_apply, oweB_recv d c p o B l, tallyAt_ne_cell (fun h => by cases congrArg Prod.snd h)]; rfl
theorem owe_recv (d c : Dev nD) (p o : Fin 7) : ∀ l : List (Fin 7 × Fin 7),
    owe d l (recvC c p o) () = if tgt d p o = c then N * l.count (p, o) else 0
  | [] => by split <;> rfl
  | x :: l => by
    show (owe d l + tallyAt (recvC (tgt d x.1 x.2) x.1 x.2) () N) (recvC c p o) () = _
    rw [Pi.add_apply, Finsupp.add_apply, owe_recv d c p o l, tallyAt_apply, List.count_cons]
    have key : (recvC c p o = recvC (tgt d x.1 x.2) x.1 x.2 ∧ () = ()) ↔ (tgt d p o = c ∧ x = (p, o)) := by
      constructor
      · rintro ⟨e, -⟩
        obtain ⟨h₁, h₂, h₃⟩ := recv_inj e
        obtain rfl : x = (p, o) := Prod.ext h₂.symm h₃.symm
        exact ⟨h₁.symm, rfl⟩
      · rintro ⟨rfl, rfl⟩; exact ⟨rfl, rfl⟩
    by_cases ht : tgt d p o = c
    · by_cases hx : x = (p, o)
      · rw [if_pos (key.mpr ⟨ht, hx⟩), if_pos ht, if_pos ht]; simp [hx, Nat.mul_add]
      · rw [if_neg fun e => hx (key.mp e).2, if_pos ht, if_pos ht]; simp [hx]
    · rw [if_neg fun e => ht (key.mp e).1, if_neg ht, if_neg ht]

theorem count_allPh (p o : Fin 7) : allPh.count (p, o) = 1 := by revert p o; decide +kernel
theorem sum_bar (c : Dev nD) : ∑ d : Dev nD, offs.countP (fun o => up d o = c) = 7 := by revert c; decide +kernel
theorem sum_tgt (c : Dev nD) (p o : Fin 7) : ∑ d : Dev nD, (if tgt d p o = c then N else 0) = N := by
  obtain ⟨d₀, rfl⟩ : ∃ d₀, tgt d₀ p o = c := by
    unfold tgt; split
    · exact ⟨dn c o, up_dn c o⟩
    · exact ⟨up c o, dn_up c o⟩
  rw [Finset.sum_eq_single d₀ (fun d _ h => if_neg fun e => h (tgt_inj _ _ _ _ e)) (fun h => absurd (Finset.mem_univ _) h), if_pos rfl]

theorem launch_bar (c : Dev nD) :
    tallyOn (barC c) (launchCredit (Pipeline.owing O₀) 0 (barC c)) = (tallyAt (barC c) () 7 : CellTallies nD τ sig Unit) := by
  unfold tallyAt; refine congrArg _ (Finsupp.ext fun u => ?_); cases u
  rw [Pipeline.launchCredit_owing, Finsupp.single_eq_same, Finset.sum_congr rfl fun d _ => (show O₀ d (barC c) () = _ from oweB_bar d c _ (owe_bar d c _) offs), sum_bar]
theorem launch_recv (c : Dev nD) (p o : Fin 7) :
    tallyOn (recvC c p o) (launchCredit (Pipeline.owing O₀) 0 (recvC c p o)) = (tallyAt (recvC c p o) () N : CellTallies nD τ sig Unit) := by
  unfold tallyAt; refine congrArg _ (Finsupp.ext fun u => ?_); cases u
  rw [Pipeline.launchCredit_owing, Finsupp.single_eq_same, Finset.sum_congr rfl fun d _ => (show O₀ d (recvC c p o) () = _ from (oweB_recv d c p o _ offs).trans (owe_recv d c p o _))]
  simp only [count_allPh, Nat.mul_one]
  exact sum_tgt c p o

/-- The receive semaphores. -/
def recvE : Fin 7 × Fin 7 ↪ SemLoc sig := ⟨fun x => .dma (recvS x.1 x.2), fun x y h => by
  have h := (recv_inj (c := 0) (c' := 0) (p := x.1) (o := x.2) (p' := y.1) (o' := y.2) (Prod.ext rfl h)).2
  exact Prod.ext h.1 h.2⟩

theorem recv_ne_bar (x : Fin 7 × Fin 7) : recvE x ≠ (SemLoc.reg barS : SemLoc sig) := fun e => by
  change (SemLoc.dma _ : SemLoc sig) = SemLoc.reg _ at e
  cases e

/-- What is owed to a device at launch: seven units on its barrier, a block's credit on each receive cell. -/
theorem creds (c : Dev nD) :
    (Pipeline.launchCred O₀ c : sProp 𝕄) ⊢ iprop(cred (tallyAt (barC c) () 7) ∗ bigSepL offs fun p => bigSepL offs fun o => cred (tallyAt (recvC c p o) () N)) := by
  unfold Pipeline.launchCred
  rw [bigSep_univ_at _ (SemLoc.reg barS), launch_bar]
  refine sep_mono_right ?_
  have hs : Finset.univ.map recvE ⊆ Finset.univ.erase (SemLoc.reg barS : SemLoc sig) := fun sm h => by
    obtain ⟨x, -, rfl⟩ := Finset.mem_map.mp h
    exact Finset.mem_erase.mpr ⟨recv_ne_bar x, Finset.mem_univ _⟩
  refine BI.Entails.trans (bigSep_subset hs) ?_
  rw [bigSep_map, ← all_phases fun p o => cred (tallyAt (recvC c p o) () N)]
  exact bigSep_mono fun x _ => Entails.of_eq (congrArg cred (launch_recv c x.1 x.2))

end Cert.KernelIdeal.Proof

end

end
-- ==== Proof.Launch.lean ====
module

public import proofs.«01_k».proof.Proof.Cells
public import proofs.«01_k».proof.Proof.Gen.KernelIdeal.Points

/-!
# The launch

The call on every device: what each is dealt at launch, its body, what it leaves; the run of the program.
-/

@[expose] public section

set_option backward.proofsInPublic true

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (K : Dev nD × Option (Fin 112) → ℕ)

variable (ρ : Dev nD → PrngReg)

/-- The memory at launch. -/
def s₀ : MemSt nD τ sig (Elt F) := ⟨m, fun _ => 0, ρ⟩

/-! ## The call's data -/

/-- The semaphores of the copies. -/
abbrev osem : Fin 112 → SemLoc sig := fun i => csem (some i)

/-- The unused semaphores at zero. -/
def unusedZ (c : Dev nD) : sProp 𝕄 := bigSep Finset.univ fun i : Fin 14 => semVal (kcell (c, some (uIx i))) 0

/-- What a device has of the protocol when the call starts. -/
def start (c : Dev nD) : sProp 𝕄 := iprop((∃ K, env m K) ∗ barR c ∗ bigSepL offs (phR c) ∗ unusedZ c)
/-- The same with the scratch buffers, -/
def Φ₀ (c : Dev nD) : sProp 𝕄 := iprop(start m c ∗ scrAny cc0_scratch0 c ∗ scrAny cc0_scratch1 c ∗ scrAny cc0_scratch2 c)
/-- and what it has at the call's end. -/
def Φ₁ (c : Dev nD) : sProp 𝕄 := iprop(bodyOut c ∗ unusedZ c)

/-- The call's windows: each input's buffer holds its array, the result's what is computed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => a1 m c
    | ⟨2, _⟩ => b1 m c
    | ⟨3, _⟩ => a2 m c
    | ⟨4, _⟩ => b2 m c
    | ⟨5, _⟩ => a3 m c
    | ⟨6, _⟩ => b3 m c
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- What a window's buffer holds before the body. -/
theorem before_in (c : Dev nD) (w : Fin cfg0.W) (h : (cfg0.win w).fetch t0_0 = true) (d) :
    (dats m ρ 0 c).before w t0_0 d = (dats m ρ 0 c).fetched w t0_0 d := by unfold Dat.before; rw [if_pos h]

/-- A window's buffer. -/
abbrev held (c : Dev nD) {s : Shape} {e : EltTy} (M : Memref sig .tc .vmem s e) (X : s.Idx → Elt F e) : sProp 𝕄 := owns (c : Thread nD τ) M fullShare X

/-- The windows' buffers before the body, -/
def preW (c : Dev nD) : sProp 𝕄 :=
  iprop((∃ d, held c (Memref.whole cc0_stg0_0) ((dats m ρ 0 c).before (0 : Fin 8) t0_0 d))
    ∗ (∃ d, held c (Memref.whole cc0_stg1_0) ((dats m ρ 0 c).before (1 : Fin 8) t0_0 d))
    ∗ (∃ d, held c (Memref.whole cc0_stg2_0) ((dats m ρ 0 c).before (2 : Fin 8) t0_0 d))
    ∗ (∃ d, held c (Memref.whole cc0_stg3_0) ((dats m ρ 0 c).before (3 : Fin 8) t0_0 d))
    ∗ (∃ d, held c (Memref.whole cc0_stg4_0) ((dats m ρ 0 c).before (4 : Fin 8) t0_0 d))
    ∗ (∃ d, held c (Memref.whole cc0_stg5_0) ((dats m ρ 0 c).before (5 : Fin 8) t0_0 d))
    ∗ (∃ d, held c (Memref.whole cc0_stg6_0) ((dats m ρ 0 c).before (6 : Fin 8) t0_0 d))
    ∗ (∃ d, held c oM ((dats m ρ 0 c).before (7 : Fin 8) t0_0 d)))
/-- and after it. -/
def postW (c : Dev nD) : sProp 𝕄 :=
  iprop(held c (Memref.whole cc0_stg0_0) (xin m c) ∗ held c (Memref.whole cc0_stg1_0) (a1 m c) ∗ held c (Memref.whole cc0_stg2_0) (b1 m c)
    ∗ held c (Memref.whole cc0_stg3_0) (a2 m c) ∗ held c (Memref.whole cc0_stg4_0) (b2 m c) ∗ held c (Memref.whole cc0_stg5_0) (a3 m c)
    ∗ held c (Memref.whole cc0_stg6_0) (b3 m c) ∗ held c oM (outAt m c))

/-- The inputs' buffers hold their arrays. -/
theorem preW_open (c : Dev nD) : preW m ρ c ⊢ iprop(winR m c ∗ ∃ X, owns (c : Thread nD τ) oM fullShare X) := by
  unfold preW
  rw [show (fun d => held (F := F) c (Memref.whole cc0_stg0_0) ((dats m ρ 0 c).before (0 : Fin 8) t0_0 d)) = fun _ => held c (Memref.whole cc0_stg0_0) (xin m c) from
      funext fun d => by rw [before_in m ρ c 0 (fetch0_0 t0_0)]; rfl,
    show (fun d => held (F := F) c (Memref.whole cc0_stg1_0) ((dats m ρ 0 c).before (1 : Fin 8) t0_0 d)) = fun _ => held c (Memref.whole cc0_stg1_0) (a1 m c) from
      funext fun d => by rw [before_in m ρ c 1 (fetch0_1 t0_0)]; rfl,
    show (fun d => held (F := F) c (Memref.whole cc0_stg2_0) ((dats m ρ 0 c).before (2 : Fin 8) t0_0 d)) = fun _ => held c (Memref.whole cc0_stg2_0) (b1 m c) from
      funext fun d => by rw [before_in m ρ c 2 (fetch0_2 t0_0)]; rfl,
    show (fun d => held (F := F) c (Memref.whole cc0_stg3_0) ((dats m ρ 0 c).before (3 : Fin 8) t0_0 d)) = fun _ => held c (Memref.whole cc0_stg3_0) (a2 m c) from
      funext fun d => by rw [before_in m ρ c 3 (fetch0_3 t0_0)]; rfl,
    show (fun d => held (F := F) c (Memref.whole cc0_stg4_0) ((dats m ρ 0 c).before (4 : Fin 8) t0_0 d)) = fun _ => held c (Memref.whole cc0_stg4_0) (b2 m c) from
      funext fun d => by rw [before_in m ρ c 4 (fetch0_4 t0_0)]; rfl,
    show (fun d => held (F := F) c (Memref.whole cc0_stg5_0) ((dats m ρ 0 c).before (5 : Fin 8) t0_0 d)) = fun _ => held c (Memref.whole cc0_stg5_0) (a3 m c) from
      funext fun d => by rw [before_in m ρ c 5 (fetch0_5 t0_0)]; rfl,
    show (fun d => held (F := F) c (Memref.whole cc0_stg6_0) ((dats m ρ 0 c).before (6 : Fin 8) t0_0 d)) = fun _ => held c (Memref.whole cc0_stg6_0) (b3 m c) from
      funext fun d => by rw [before_in m ρ c 6 (fetch0_6 t0_0)]; rfl]
  iintro ⟨⟨%_, H0⟩, ⟨%_, H1⟩, ⟨%_, H2⟩, ⟨%_, H3⟩, ⟨%_, H4⟩, ⟨%_, H5⟩, ⟨%_, H6⟩, ⟨%d, H7⟩⟩
  unfold winR
  isplitr [H7]
  · isplitl [H0]; · iexact H0
    isplitl [H1]; · iexact H1
    isplitl [H2]; · iexact H2
    isplitl [H3]; · iexact H3
    isplitl [H4]; · iexact H4
    isplitl [H5] <;> iassumption
  · iexists _; iexact H7

/-- What the body is called with, and leaves. -/
def bodyPre (c : Dev nD) : sProp 𝕄 := iprop(Φ₀ m c ∗ (dats m ρ 0 c).owesAt () t0_0.castSucc ∗ preW m ρ c)
@[inherit_doc bodyPre] def bodyPost (c : Dev nD) : sProp 𝕄 := iprop(Φ₁ c ∗ (dats m ρ 0 c).owesAt () t0_0.succ ∗ postW m c)

theorem owes_in (c : Dev nD) : (dats m ρ 0 c).owesAt () t0_0.castSucc ⊢ ow c (O₀ c) := by
  unfold Dat.owesAt Pipeline.owesWithin ow
  rw [show (dats m ρ 0 c).owed t0_0.castSucc = O₀ c from rfl]
  iintro ⟨%W, -, H⟩; iexists W; iexact H
theorem owes_out (c : Dev nD) : ow c 0 ⊢ (dats m ρ 0 c).owesAt () t0_0.succ := by
  unfold Dat.owesAt Pipeline.owesWithin ow
  rw [show (dats m ρ 0 c).owed t0_0.succ = 0 from rfl]
  iintro ⟨%W, H⟩; iexists W
  isplitr; · ipureintro; exact fun _ _ => Or.inl trivial
  iexact H

/-- The body's run, as the call states it. -/
theorem body_run (c : Dev nD) :
    bodyPre m ρ c ⊢ run c (body (Memref.whole cc0_stg0_0) (Memref.whole cc0_stg1_0) (Memref.whole cc0_stg2_0) (Memref.whole cc0_stg3_0) (Memref.whole cc0_stg4_0)
            (Memref.whole cc0_stg5_0) (Memref.whole cc0_stg6_0) oM) (fun _ => bodyPost m ρ c) := by
  unfold bodyPre Φ₀ start
  iintro ⟨⟨⟨⟨%K, #He⟩, Hb, Hp, Hu⟩, Hs⟩, Ho, Hw⟩
  ihave Hw' := (preW_open m ρ c) $$ Hw
  icases Hw' with ⟨Hw, Hout⟩
  ihave Ho' := (owes_in m ρ c) $$ Ho
  iapply (body_spec m K c fun _ => bodyPost m ρ c) $$ [Ho' Hb Hp Hs Hw Hout]
  · isplitr; · iexact He
    isplitl [Ho']; · iexact Ho'
    unfold bodyIn
    isplitl [Hb Hp Hs]
    · isplitl [Hb]; · iexact Hb
      isplitl [Hp] <;> iassumption
    isplitl [Hw] <;> iassumption
  iintro ⟨Ho, Hb, Hw, Hout⟩
  unfold bodyPost Φ₁ postW winR
  isplitl [Hb Hu]
  · isplitl [Hb] <;> iassumption
  isplitl [Ho]; · iapply (owes_out m ρ c); iexact Ho
  icases Hw with ⟨H0, H1, H2, H3, H4, H5, H6⟩
  isplitl [H0]; · iexact H0
  isplitl [H1]; · iexact H1
  isplitl [H2]; · iexact H2
  isplitl [H3]; · iexact H3
  isplitl [H4]; · iexact H4
  isplitl [H5]; · iexact H5
  isplitl [H6] <;> iassumption

/-- The call's eight windows, one by one. -/
theorem bigSep_windows (Φ : Fin cfg0.W → sProp 𝕄) : bigSep Finset.univ Φ = iprop(Φ (0 : Fin 8) ∗ Φ (1 : Fin 8) ∗ Φ (2 : Fin 8) ∗ Φ (3 : Fin 8)
    ∗ Φ (4 : Fin 8) ∗ Φ (5 : Fin 8) ∗ Φ (6 : Fin 8) ∗ Φ (7 : Fin 8)) := bigSep_W0 Φ

set_option maxRecDepth 100000 in
/-- The body does what the call's data say. -/
theorem body_obligation (c : Dev nD) : BodyObligation (dats (F := F) m ρ 0 c) (defs₀ (F := F)) 𝒱₀ () Set.univ := fun t => by
  rw [show t = t0_0 from fin_N0 t]
  rw [bigSep_windows, bigSep_windows]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4) (fun _ => bodyPost m ρ c)
  rw [cc0_body_eq]
  exact body_run m ρ c

end Cert.KernelIdeal.Proof

end

end
-- ==== Proof.Run.lean ====
module

public import proofs.«01_k».proof.Proof.Launch
public import Idealize.ShloMosaic.Lib.Pipeline.CollectiveSegs

/-!
# The run

What the launch deals to each device, and the run of the program on all of them.
-/

@[expose] public section

set_option backward.proofsInPublic true

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (K : Dev nD × Option (Fin 112) → ℕ)

variable (ρ : Dev nD → PrngReg)

theorem ownSemFacts : Pipeline.OwnSemFacts cfg0.spec osem := ⟨by decide +kernel, fun i j h => by
    have h' := kcell_inj (a₁ := ((0 : Dev nD), some i)) (a₂ := ((0 : Dev nD), some j)) (Prod.ext rfl h)
    exact Option.some.inj (congrArg Prod.snd h'), by decide +kernel⟩

theorem share_eq (c : Dev nD) (w : Fin cfg0.W) : (dats m ρ 0 c).share w = fullShare := by unfold Dat.share; split <;> rfl

/-! ## What is dealt -/

/-- The launch's element: the pipeline's part and the protocol's. -/
def u₀ : UU := (initOf (Pipeline.cells cfgs cellOf_inj) (Pipeline.launchToks cfgs cellOf_inj), initOf cells allToks)

/-- What it deals a device: its cells' rounds and its own positions in them, and the tokens it pays with. -/
def G (c : Dev nD) : sProp 𝕄 :=
  iprop((bigSep Finset.univ fun k => roundState ER (sched m) (kcell (c, k)) 0)
    ∗ (bigSep Finset.univ fun k => iprop(atPos ER (kcell (c, k)) 0 ∅ 0 ∗ reached ER (kcell (c, k)) 0)) ∗ toks c)

/-- What a device holds of it once the invariants stand. -/
def G' (c : Dev nD) : sProp 𝕄 :=
  iprop((∃ K, recs m K) ∗ (bigSep Finset.univ fun k => atPos ER (kcell (c, k)) 0 ∅ 0) ∗ toks c)

/-- A fact of every cell is one of every device's cells. -/
theorem all_dev_cells (Φ : GSem nD τ sig → sProp 𝕄) : bigSep cells Φ = bigSep Finset.univ fun c : Dev nD => bigSep Finset.univ fun k => Φ (kcell (c, k)) := by
  unfold cells; rw [bigSep_map, bigSep_univ_prod]; rfl

theorem fund : BI.own (ER (initOf cells allToks)) ⊢ (|==> bigSep Finset.univ (G m) : sProp 𝕄) := by
  iintro HX
  imod (Rounds.fund ER (sched m) cells allToks) $$ HX with ⟨Hst, Hr, Hat, Htok⟩
  imodintro
  ihave Hst' := (Entails.of_eq (all_dev_cells fun g => roundState ER (sched m) g 0)) $$ Hst
  ihave Hat' := (Entails.of_eq (all_dev_cells fun g => atPos ER g 0 ∅ 0)) $$ Hat
  ihave Hr' := (Entails.of_eq (all_dev_cells fun g => reached ER g 0)) $$ Hr
  ihave Htok' := (toks_eq (F := F)) $$ Htok
  unfold G; simp only [bigSep_sep']
  isplitl [Hst']; · iexact Hst'
  isplitl [Hat' Hr']
  · isplitl [Hat'] <;> iassumption
  iexact Htok'

/-- The barrier's semaphore is the launch's one unscoped semaphore. -/
theorem unscopedSems0_eq (c : Dev nD) : (unscopedSems0 c : sProp 𝕄) = semVal (barC c) 0 := by
  unfold unscopedSems0; rw [bigSep_eq_bigSepL_of_eq [SemLoc.reg barS] (by decide) (by decide)]; rfl
/-- The semaphores a device is given are its cells' at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [unscopedSems0_eq, all_cells]
  exact BI.sep_comm

theorem cells_stand (c : Dev nD) :
    iprop((bigSep Finset.univ fun k => semVal (kcell (c, k)) 0) ∗ bigSep Finset.univ fun k => roundState ER (sched m) (kcell (c, k)) 0)
      ⊢ (|={Set.univ}=> bigSep Finset.univ fun k => iprop(∃ κ : ℕ, cellInv ER (sched m) κ (kcell (c, k))) : sProp 𝕄) := by
  rw [← bigSep_sep']
  exact (bigSep_mono fun k _ => (Rounds.body_intro ER (sched m) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (cells_stand m c) $$ [Hv Hst] with Hinv
  · isplitl [Hv] <;> iassumption
  imodintro
  isplitl [Hinv]; · iexact Hinv
  isplitl [Hat]; · iexact Hat
  iexact Htok

/-- A copy of the records for every device. -/
theorem recs_all (Φ : Dev nD → sProp 𝕄) : iprop(recs m K ∗ bigSep Finset.univ Φ) ⊢ bigSep Finset.univ fun c => iprop((∃ K, recs m K) ∗ Φ c) := by
  rw [bigSep_sep']
  refine sep_mono_left ((BI.bigSep_of_persistent Finset.univ (recs m K)).trans (bigSep_mono fun c _ => ?_))
  exact recs_ex
where
  /-- The records stand under some names. -/
  recs_ex : recs m K ⊢ iprop(∃ K, recs m K) := by iintro H; iexists K; iexact H

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Option (Fin 112) => iprop(∃ κ : ℕ, cellInv ER (sched m) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Option (Fin 112) => (reached ER (kcell ck) 0 : sProp 𝕄))]
  iintro ⟨HI, ⟨Hat, #HR⟩, Htok⟩
  ihave HK := (BI.bigSep_exists_pi Finset.univ (fun (ck : Dev nD × Option (Fin 112)) (κ : ℕ) => (cellInv ER (sched m) κ (kcell ck) : sProp 𝕄))) $$ HI
  icases HK with ⟨%K, #HI⟩
  unfold G'
  iapply (recs_all m K fun c => iprop((bigSep Finset.univ fun k => atPos ER (kcell (c, k)) 0 ∅ 0) ∗ toks c))
  isplitr
  · unfold recs; rw [bigSep_sep']
    isplitl; · iexact HI
    iexact HR
  rw [bigSep_sep']
  isplitl [Hat]; · iexact Hat
  iexact Htok

/-- Every device's semaphores become its cells, at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## From what is dealt to what the body starts with -/

/-- The unused cells are closed at once. -/
theorem close_unused (c : Dev nD) :
    iprop(recs m K ∗ bigSep Finset.univ fun i : Fin 14 => atPos ER (kcell (c, some (uIx i))) 0 ∅ 0) ⊢ (|={Set.univ}=> unusedZ c : sProp 𝕄) := by
  refine BI.Entails.trans (sep_mono_left (BI.bigSep_of_persistent (Finset.univ : Finset (Fin 14)) (recs m K))) ?_
  rw [← bigSep_sep']
  exact (bigSep_mono fun i _ => close_one i).trans (bigSep_fupd _ _)
where
  /-- One of them. -/
  close_one (i : Fin 14) : iprop(recs m K ∗ atPos ER (kcell (c, some (uIx i))) 0 ∅ 0) ⊢ (|={Set.univ}=> semVal (kcell (c, some (uIx i))) 0 : sProp 𝕄) := by
    iintro ⟨HI, Ha⟩
    ihave H := (recs_at m K (c, some (uIx i))) $$ HI
    icases H with ⟨HI, -⟩
    iapply (Rounds.cell_close ER (sched m) (Set.mem_univ _) (fun h => h) (R := 0) fun r _ => by
      rcases Nat.eq_zero_or_pos r with rfl | hr
      · exact duties_unused m c _ (dec_unused i)
      · exact duties_later m _ r hr)
    isplitl [HI] <;> iassumption

/-- A device's positions, credit and tokens, by phase. -/
theorem phases_intro (c : Dev nD) :
    iprop((bigSepL offs fun p => bigSepL offs fun o => cred (tallyAt (recvC c p o) () N))
        ∗ (bigSepL offs fun p => bigSepL offs fun o => atPos ER (kcell (c, some (rIx p o))) 0 ∅ 0)
        ∗ (bigSepL offs fun p => bigSepL offs fun o => atPos ER (kcell (c, some (sIx p o))) 0 ∅ 0)
        ∗ bigSepL offs fun p => bigSepL offs (tok c p))
      ⊢ bigSepL (M := 𝕄) offs (phR c) := by
  simp only [kcell_r, kcell_s]
  iintro ⟨H₁, H₂, H₃, H₄⟩
  unfold phR rcv
  iapply (seqL_join _ _ offs)
  isplitl [H₁ H₂]
  · iapply (seqL_mono (fun p => seqL_join _ _ offs) offs)
    iapply (seqL_join _ _ offs)
    isplitl [H₁] <;> iassumption
  iapply (seqL_join _ _ offs)
  isplitl [H₃] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  rw [all_cells, all_sems]
  iintro ⟨-, #Hlev, Hcr, -, ⟨%K, #HI⟩, ⟨Hb, Hu, Hs, Hr⟩, Ht⟩
  ihave Hc := (creds (F := F) c) $$ Hcr
  icases Hc with ⟨Hcb, Hcr⟩
  unfold toks
  icases Ht with ⟨Htb, Ht⟩
  imod (close_unused m K c) $$ [Hu] with Hu
  · isplitr; · iexact HI
    iexact Hu
  imodintro
  unfold start barR
  isplitl
  · isplitr
    · iexists K; unfold env
      isplitl; · iexact HI
      iexact Hlev
    isplitl [Hb Hcb Htb]
    · isplitl [Hb]; · iexact Hb
      isplitl [Hcb] <;> iassumption
    isplitl [Hcr Hr Hs Ht]
    · iapply (phases_intro c)
      isplitl [Hcr]; · iexact Hcr
      isplitl [Hr]; · iexact Hr
      isplitl [Hs] <;> iassumption
    iexact Hu
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrAny
  iintro ⟨Hs, -, Hr⟩
  isplitl [Hs] <;> iassumption

/-- The semaphores of the copies at zero again. -/
theorem sems_back (c : Dev nD) :
    iprop(unusedZ c ∗ bigSepL offs (phZ c)) ⊢ (Pipeline.ownSems0 (Ix := Unit) (Name := ℕ) (U := UU) (Lvl := ℕ) (Val := Elt F) (τ := τ) osem c : sProp 𝕄) := by
  rw [show (Pipeline.ownSems0 (Ix := Unit) (Name := ℕ) (U := UU) (Lvl := ℕ) (Val := Elt F) (τ := τ) osem c : sProp 𝕄)
    = bigSep Finset.univ fun i => semVal (kcell (c, some i)) 0 from rfl, all_sems]
  simp only [kcell_r, kcell_s]
  unfold unusedZ phZ
  iintro ⟨Hu, H⟩
  ihave H' := (seqL_split _ _ offs) $$ H
  icases H' with ⟨H₁, H₂⟩
  isplitl [Hu]; · iexact Hu
  isplitl [H₂] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ bodyOut scrAny
  iintro ⟨⟨Hb, Hp, Hs⟩, Hu⟩
  isplitl [Hb]; · iexact Hb
  isplitl [Hp Hu]
  · iapply (sems_back c)
    isplitl [Hu] <;> iassumption
  iexact Hs

/-- The semaphores of the windows come before all others. -/
theorem lv_stage (c : Dev nD) (i : DmaSem sig) (h : i.val < 8) : lv ((c : Thread nD τ), .dma i) () = 0 := by
  unfold lv; dsimp only
  rw [show dec i = none from dif_neg fun hh => absurd hh.1 (Nat.not_le.mpr h)]

theorem waits (c : Dev nD) : (levAts L lv : sProp 𝕄) ⊢ Pipeline.cellsWaits cfgs (dats m ρ) () 0 c :=
  Pipeline.cellsWaits_intro cfgs (dats m ρ) () 0 c fun w s t =>
    mayWait c _ _ 0 (Nat.le_of_eq (lv_stage c _ (by fin_cases w <;> fin_cases s <;> decide))) (by
      rcases t with ⟨_ | _, ht⟩
      · exact above_O₀ c
      · exact Above.zero 0)

/-! ## The run -/

/-- A window's array at the end. -/
def finalA (c : Dev nD) (w : Fin cfg0.W) : Buf (Elt F) ((cfg0.win w).arr.view.loc (c : Thread nD τ)) := (dats m ρ 0 c).arrAt w cfg0.N
/-- Every device's arrays are at their final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On eight devices, for any float values, from any memory with the semaphores at zero: the program ends, the input
    arrays are as before, each result's array holds the computed contents and the semaphores are at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Proof

end

end
-- ==== Proof.Frames.lean ====
module

public import proofs.«01_k».proof.Proof.Run
public import proofs.«01_k».proof.Defs
public import proofs.«01_k».proof.Proof.Gen.Kernel
public import proofs.«01_k».proof.Proof.Gen.ReferenceIdeal.Run

/-!
# The frames

The run leaves the inputs as they were and the semaphores at zero, for the kernel at machine floats and at ideal ones.
-/

@[expose] public section

set_option backward.proofsInPublic true

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (K : Dev nD × Option (Fin 112) → ℕ)

variable (ρ : Dev nD → PrngReg)

/-- An input's array is as before. -/
theorem final_in (c : Dev nD) (w : Fin cfg0.W) (h : (cfg0.win w).isOut = false) :
    finalA m ρ c w = (s₀ m ρ).mem ((cfg0.win w).arr.view.loc (c : Thread nD τ)) := (dats (F := F) m ρ 0 c).arrAt_in w h _

/-- What the frames state of a final memory. -/
def Kept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)

theorem kept_of (r : PUnit × MemSt nD τ sig (Elt F)) (h : QC m ρ r) (c : Dev nD) : Kept m r c :=
  ⟨(h c 0).trans (final_in m ρ c 0 rfl), (h c 1).trans (final_in m ρ c 1 rfl), (h c 2).trans (final_in m ρ c 2 rfl),
    (h c 3).trans (final_in m ρ c 3 rfl), (h c 4).trans (final_in m ρ c 4 rfl), (h c 5).trans (final_in m ρ c 5 rfl),
    (h c 6).trans (final_in m ρ c 6 rfl)⟩

/-- For any float values: the program ends with its inputs as before and the semaphores at zero. -/
theorem frame_any : θ_run defs (onTc (τ := τ) (main (F := F))) (s₀ m ρ) (fun r => (∀ c, Kept m r c) ∧ r.2.sem = fun _ => 0) :=
  (θ_run defs _ _).mono (fun r h => ⟨fun c => kept_of m ρ r h.1 c, h.2⟩) (run_main m ρ)

/-- The frame of the program read at ideal floats. -/
theorem frame_ideal : Cert.quiescent_KernelIdeal := fun m ρ _ => frame_any (F := Ideal) m ρ
/-- The program as printed declares the same functions. -/
theorem same_defs : (defs (F := F)) = Cert.Kernel.defs (F := F) := by sl_kernel_rfl

/-- The frame of the program as printed: it has the same text. -/
theorem frame_kernel : Cert.quiescent_Kernel := fun m ρ _ => by
  have h := frame_any (F := Bits) m ρ
  rw [same_defs] at h
  exact h

/-- The frame of the reference: it runs through, and it has no semaphores. -/
theorem frame_reference : Cert.quiescent_ReferenceIdeal := fun m ρ _ =>
  (θ_run (Cert.ReferenceIdeal.defs (F := Ideal)) _ _).mono (fun r h => ⟨fun c => (h c).2, sem_eq_zero_of_no_sems rfl _⟩)
    (Cert.ReferenceIdeal.Value.run (F := Ideal) m ρ)

end Cert.KernelIdeal.Proof

end

end
-- ==== Proof.Value.lean ====
module

public import proofs.«01_k».proof.Proof.Products
public import proofs.«01_k».proof.Proof.Frames
public import Idealize.ShloMosaic.Lib.Pipeline.ValueKit.Geometry

/-!
# The value

With each device's arguments blocks of the reference's, the blocks of activations after a layer are blocks of the
reference's activations, so the result on every device is the reference's result.
-/

@[expose] public section

set_option backward.proofsInPublic true

noncomputable section

namespace Cert.KernelIdeal.Proof

open Idealize.ShloMosaic Idealize.ShloMosaic.TcCoe
open Idealize.SL.Sem
open Idealize.ShloMosaic.ValueIdx
open Cert.KernelIdeal.Gen

/-! ## The reference -/

/-- The whole arrays: activations and the two kinds of weights. -/
abbrev WX : Type := FVec Ideal Cert.ReferenceIdeal.S512x512 .f32
@[inherit_doc WX] abbrev WA : Type := FVec Ideal Cert.ReferenceIdeal.S512x8192 .f32
@[inherit_doc WX] abbrev WB : Type := FVec Ideal Cert.ReferenceIdeal.S8192x512 .f32

/-- One layer of the reference. -/
def refLayer (x : WX) (A : WA) (B : WB) : WX :=
  Host.dotGeneral Cert.ReferenceIdeal.dot_S512x8192_S8192x512_S512x512_1_0_0_1_n_n none
    (maximumf (Host.dotGeneral Cert.ReferenceIdeal.dot_S512x512_S512x8192_S512x8192_1_0_0_1_n_n none x A)
      (broadcastInDim Cert.ReferenceIdeal.S512x8192 ![] Cert.ReferenceIdeal.Facts₀.bcast_S_S512x8192 (constant Cert.ReferenceIdeal.S_ .f32 0x00000000#32))) B

theorem refLayer_apply (x : WX) (A : WA) (B : WB) (r q : Fin 512) :
    refLayer x A B (ix2 r q) = mlp (fun j => x (ix2 r j)) (fun j k => A (ix2 j k)) (fun k => B (ix2 k q)) := by
  unfold refLayer mlp
  refine (StackMember.dotGeneral_plain_apply none _ B r q).trans (Finset.sum_congr rfl fun k _ => ?_)
  exact congrArg (· * _) (congrArg₂ max (StackMember.dotGeneral_plain_apply none x A r k) Ideal.ofBits_zero_f32)

/-! ## Blocks -/

/-- Row `r` of block `c`. -/
def rowAt (c : Dev nD) (r : Fin 64) : Fin 512 := ⟨c.val * 64 + r.val, by have h : c.val < 8 := c.isLt; omega⟩
/-- Column `k` of block `d`. -/
def colAt (d : Dev nD) (k : Fin 1024) : Fin 8192 := ⟨d.val * 1024 + k.val, by have h : d.val < 8 := d.isLt; omega⟩

theorem colAt_eq (d : Dev nD) (k : Fin 1024) : (finProdFinEquiv ((d : Fin 8), k) : Fin (8 * 1024)) = colAt d k :=
  Fin.ext (show k.val + 1024 * d.val = d.val * 1024 + k.val by omega)

/-- The blocks `b` are the rows of `X`; -/
def RowsOf (b : Dev nD → Blk Ideal) (X : WX) : Prop := ∀ c r j, b c (ix2 r j) = X (ix2 (rowAt c r) j)
/-- the weights `W` are the columns of `A`, -/
def ColsOf (W : Dev nD → FVec Ideal S512x1024 .bf16) (A : WA) : Prop := ∀ d j k, W d (ix2 j k) = A (ix2 j (colAt d k))
/-- or the rows of `B`. -/
def WRowsOf (W : Dev nD → FVec Ideal S1024x512 .bf16) (B : WB) : Prop := ∀ d k q, W d (ix2 k q) = B (ix2 (colAt d k) q)

variable (m : (ℓ : Loc nD τ sig) → Buf (Elt Ideal) ℓ)

/-- A layer of the blocks is the blocks of the reference's layer. -/
theorem layer_rows (l : Fin 3) (b : Dev nD → Blk Ideal) (X : WX) (A : WA) (B : WB)
    (hb : RowsOf b X) (hA : ColsOf (w1 m l) A) (hB : WRowsOf (w2 m l) B) (c : Dev nD) (r : Fin 64) (q : Fin 512) :
    layerOf m l b c (ix2 r q) = refLayer X A B (ix2 (rowAt c r) q) := by
  rw [layerOf_apply, refLayer_apply, mlp_blocks]
  refine Finset.sum_congr rfl fun d _ => ?_
  simp only [hb c, hA d, hB d, ← colAt_eq]

/-! ## The arguments -/

/-- An index's coordinates in a block that starts where the array starts. -/
theorem idx_start {d : Fin 2 → ℕ} (j : (⟨2, d⟩ : Shape).Idx) (f : (⟨2, d⟩ : Shape).Idx) (h : ∀ a, (f a).val = 0 * d a + 1 * (j a).val) : f = j :=
  funext fun a => Fin.ext (by rw [h a]; omega)

theorem xin_eq (c : Dev nD) : xin m c = m ((c : Thread nD τ).loc main_arg0) :=
  funext fun j => congrArg (m ((c : Thread nD τ).loc main_arg0)) (idx_start j _ fun a => by fin_cases a <;> rfl)
theorem a1_eq (c : Dev nD) : a1 m c = m ((c : Thread nD τ).loc main_arg1) :=
  funext fun j => congrArg (m ((c : Thread nD τ).loc main_arg1)) (idx_start j _ fun a => by fin_cases a <;> rfl)
theorem b1_eq (c : Dev nD) : b1 m c = m ((c : Thread nD τ).loc main_arg2) :=
  funext fun j => congrArg (m ((c : Thread nD τ).loc main_arg2)) (idx_start j _ fun a => by fin_cases a <;> rfl)
theorem a2_eq (c : Dev nD) : a2 m c = m ((c : Thread nD τ).loc main_arg3) :=
  funext fun j => congrArg (m ((c : Thread nD τ).loc main_arg3)) (idx_start j _ fun a => by fin_cases a <;> rfl)
theorem b2_eq (c : Dev nD) : b2 m c = m ((c : Thread nD τ).loc main_arg4) :=
  funext fun j => congrArg (m ((c : Thread nD τ).loc main_arg4)) (idx_start j _ fun a => by fin_cases a <;> rfl)
theorem a3_eq (c : Dev nD) : a3 m c = m ((c : Thread nD τ).loc main_arg5) :=
  funext fun j => congrArg (m ((c : Thread nD τ).loc main_arg5)) (idx_start j _ fun a => by fin_cases a <;> rfl)
theorem b3_eq (c : Dev nD) : b3 m c = m ((c : Thread nD τ).loc main_arg6) :=
  funext fun j => congrArg (m ((c : Thread nD τ).loc main_arg6)) (idx_start j _ fun a => by fin_cases a <;> rfl)

/-- An array read in whole, its format forgotten, is the array. -/
theorem cast_eq {S : Shape} (v : FVec Ideal S .f32) (h : S.ShapeCasts S) : truncf .bf16 (shapeCast S v h) bitsLt_bf16_f32 = v :=
  congrArg (fun u : FVec Ideal S .f32 => truncf .bf16 u bitsLt_bf16_f32) (shapeCast_self v h)

/-- A device's block of rows of the activations, read at an index; -/
theorem block_x (X : WX) (c : Dev nD) (r : Fin 64) (j : Fin 512) :
    Layout.block ⟨2, ![64, 512]⟩ ⟨2, ![512, 512]⟩ 0 8 c X (by decide) (ix2 r j) = X (ix2 (rowAt c r) j) :=
  congrArg X (funext fun a => by fin_cases a <;> rfl)
/-- of columns of weights, -/
theorem block_a (A : WA) (d : Dev nD) (j : Fin 512) (k : Fin 1024) :
    Layout.block ⟨2, ![512, 1024]⟩ ⟨2, ![512, 8192]⟩ 1 8 d A (by decide) (ix2 j k) = A (ix2 j (colAt d k)) :=
  congrArg A (funext fun a => by fin_cases a <;> rfl)
/-- and of rows of weights. -/
theorem block_b (B : WB) (d : Dev nD) (k : Fin 1024) (q : Fin 512) :
    Layout.block ⟨2, ![1024, 512]⟩ ⟨2, ![8192, 512]⟩ 0 8 d B (by decide) (ix2 k q) = B (ix2 (colAt d k) q) :=
  congrArg B (funext fun a => by fin_cases a <;> rfl)

/-- Each device's arguments are its blocks of the whole ones. -/
structure Given (X : WX) (A : Fin 3 → WA) (B : Fin 3 → WB) : Prop where
  x : ∀ c : Dev nD, m ((c : Thread nD τ).loc main_arg0) = Layout.block ⟨2, ![64, 512]⟩ ⟨2, ![512, 512]⟩ 0 8 c X
  a1 : ∀ c : Dev nD, m ((c : Thread nD τ).loc main_arg1) = Layout.block ⟨2, ![512, 1024]⟩ ⟨2, ![512, 8192]⟩ 1 8 c (A 0)
  b1 : ∀ c : Dev nD, m ((c : Thread nD τ).loc main_arg2) = Layout.block ⟨2, ![1024, 512]⟩ ⟨2, ![8192, 512]⟩ 0 8 c (B 0)
  a2 : ∀ c : Dev nD, m ((c : Thread nD τ).loc main_arg3) = Layout.block ⟨2, ![512, 1024]⟩ ⟨2, ![512, 8192]⟩ 1 8 c (A 1)
  b2 : ∀ c : Dev nD, m ((c : Thread nD τ).loc main_arg4) = Layout.block ⟨2, ![1024, 512]⟩ ⟨2, ![8192, 512]⟩ 0 8 c (B 1)
  a3 : ∀ c : Dev nD, m ((c : Thread nD τ).loc main_arg5) = Layout.block ⟨2, ![512, 1024]⟩ ⟨2, ![512, 8192]⟩ 1 8 c (A 2)
  b3 : ∀ c : Dev nD, m ((c : Thread nD τ).loc main_arg6) = Layout.block ⟨2, ![1024, 512]⟩ ⟨2, ![8192, 512]⟩ 0 8 c (B 2)

variable {m} {X : WX} {A : Fin 3 → WA} {B : Fin 3 → WB} (H : Given m X A B)
include H

/-- The weights the products take are those blocks. -/
theorem w1_cols (l : Fin 3) : ColsOf (w1 m l) (A l) := fun d j k => by
  refine Eq.trans ?_ (block_a (A l) d j k)
  fin_cases l
  · exact congrFun ((cast_eq _ _).trans ((a1_eq m d).trans (H.a1 d))) _
  · exact congrFun ((cast_eq _ _).trans ((a2_eq m d).trans (H.a2 d))) _
  · exact congrFun ((cast_eq _ _).trans ((a3_eq m d).trans (H.a3 d))) _
@[inherit_doc w1_cols] theorem w2_rows (l : Fin 3) : WRowsOf (w2 m l) (B l) := fun d k q => by
  refine Eq.trans ?_ (block_b (B l) d k q)
  fin_cases l
  · exact congrFun ((cast_eq _ _).trans ((b1_eq m d).trans (H.b1 d))) _
  · exact congrFun ((cast_eq _ _).trans ((b2_eq m d).trans (H.b2 d))) _
  · exact congrFun ((cast_eq _ _).trans ((b3_eq m d).trans (H.b3 d))) _

/-! ## The layers -/

omit H in
/-- The reference's activations after `l` layers. -/
def refX (X : WX) (A : Fin 3 → WA) (B : Fin 3 → WB) : ℕ → WX
  | 0 => X
  | l + 1 => refLayer (refX X A B l) (A (Fin.ofNat 3 l)) (B (Fin.ofNat 3 l))

/-- The kernel's blocks after any number of layers are the reference's rows. -/
theorem own_rows : ∀ l : ℕ, RowsOf (own m l) (refX X A B l)
  | 0 => fun c r j => (congrFun ((cast_eq _ _).trans ((xin_eq m c).trans (H.x c))) _).trans (block_x X c r j)
  | l + 1 => fun c r j => layer_rows m (Fin.ofNat 3 l) (own m l) (refX X A B l) _ _ (own_rows l) (w1_cols H _) (w2_rows H _) c r j

omit H in
/-- The block stored for device `s` on any device. -/
theorem outBlk_eq (c s : Dev nD) : outBlk m c s = own m 3 s := by
  unfold outBlk
  split_ifs with h
  · subst h; rfl
  · show extf .f32 (stored (own m 3 s)) bitsLt_bf16_f32 = own m 3 s
    rw [stored_eq]; rfl

/-- The result on every device is the reference's. -/
theorem outAt_eq (c : Dev nD) : outAt m c = refX X A B 3 := by
  funext y
  show outBlk m c (rowDev y) (rowPos y) = _
  rw [outBlk_eq]
  have hp : rowPos y = ix2 (⟨(y 0).val % 64, Nat.mod_lt _ (by decide)⟩ : Fin 64) (⟨(y 1).val, (y 1).isLt⟩ : Fin 512) := by
    funext a; fin_cases a <;> rfl
  rw [hp, own_rows H 3]
  refine congrArg (refX X A B 3) (funext fun a => Fin.ext ?_)
  match a with
  | ⟨0, _⟩ => show (y 0).val / 64 * 64 + (y 0).val % 64 = (y 0).val; omega
  | ⟨1, _⟩ => rfl

omit H
variable (ρ : Dev nD → PrngReg)

/-- The result's array ends at what the body leaves. -/
theorem final_out (m : (ℓ : Loc nD τ sig) → Buf (Elt Ideal) ℓ) (c : Dev nD) : finalA m ρ c 7 = outAt m c :=
  (dats m ρ 0 c).arrAt_eq_of_covers 7 (outAt m c) (by decide +kernel)
    (fun t _ j => congrArg (outAt m c) (idx_start j _ fun a => by fin_cases a <;> rfl).symm)

/-- At ideal values: the kernel's result on every device is the reference's. -/
theorem algebraic : Cert.algebraic_KernelIdeal_ReferenceIdeal := fun m ρ m' ρ' _ hb =>
  ⟨_, (θ_run defs _ _).mono (fun r h c => ⟨(h.1 c 7).trans ((final_out ρ m c).trans (outAt_eq
        (X := m' (((0 : Dev Cert.ReferenceIdeal.nD).tc : Thread Cert.ReferenceIdeal.nD Cert.ReferenceIdeal.τ).loc Cert.ReferenceIdeal.main_arg0))
        (A := ![m' (((0 : Dev Cert.ReferenceIdeal.nD).tc : Thread Cert.ReferenceIdeal.nD Cert.ReferenceIdeal.τ).loc Cert.ReferenceIdeal.main_arg1),
          m' (((0 : Dev Cert.ReferenceIdeal.nD).tc : Thread Cert.ReferenceIdeal.nD Cert.ReferenceIdeal.τ).loc Cert.ReferenceIdeal.main_arg3),
          m' (((0 : Dev Cert.ReferenceIdeal.nD).tc : Thread Cert.ReferenceIdeal.nD Cert.ReferenceIdeal.τ).loc Cert.ReferenceIdeal.main_arg5)])
        (B := ![m' (((0 : Dev Cert.ReferenceIdeal.nD).tc : Thread Cert.ReferenceIdeal.nD Cert.ReferenceIdeal.τ).loc Cert.ReferenceIdeal.main_arg2),
          m' (((0 : Dev Cert.ReferenceIdeal.nD).tc : Thread Cert.ReferenceIdeal.nD Cert.ReferenceIdeal.τ).loc Cert.ReferenceIdeal.main_arg4),
          m' (((0 : Dev Cert.ReferenceIdeal.nD).tc : Thread Cert.ReferenceIdeal.nD Cert.ReferenceIdeal.τ).loc Cert.ReferenceIdeal.main_arg6)])
        ⟨fun c => (hb c).1, fun c => (hb c).2.1, fun c => (hb c).2.2.1, fun c => (hb c).2.2.2.1, fun c => (hb c).2.2.2.2.1,
          fun c => (hb c).2.2.2.2.2.1, fun c => (hb c).2.2.2.2.2.2⟩ c)), kept_of m ρ r h.1 c⟩) (run_main m ρ),
    (θ_run (Cert.ReferenceIdeal.defs (F := Ideal)) _ _).mono (fun r h => h 0) (Cert.ReferenceIdeal.Value.run (F := Ideal) m' ρ')⟩

end Cert.KernelIdeal.Proof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The three frames, the idealization, and the result's value. -/
theorem claim : Cert.Claim := ⟨Cert.Kernel.Gen.facts, Cert.KernelIdeal.Gen.facts, Cert.ReferenceIdeal.Gen.facts,
  Cert.KernelIdeal.Proof.frame_kernel, Cert.KernelIdeal.Proof.frame_ideal, Cert.KernelIdeal.Proof.frame_reference, trivial,
  Cert.KernelIdeal.Proof.algebraic⟩

end Cert.Proof

end
